-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S4x256x8 : Shape := ⟨3, ![4, 256, 8]⟩
abbrev S3 : Shape := ⟨1, ![3]⟩
abbrev S_ : Shape := ⟨0, ![]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x256x8 : Shape := ⟨3, ![1, 256, 8]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .bf16⟩
  | .local _ .vmem, ⟨0, _⟩ => ⟨S256x1024, .bf16⟩
  | .local _ .vmem, ⟨1, _⟩ => ⟨S256x8, .bf16⟩
  | .local _ .vmem, ⟨2, _⟩ => ⟨S4x256x8, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v232 : BitVec 32 := Scalar.addi v2 c1_i32_67
  let c4_i32_68 : BitVec 32 := 4#32
  let c0_i32_69 : BitVec 32 := 0#32
  let v233 : BitVec 1 := Scalar.cmpi .eq c4_i32_68 c0_i32_69
  let c1_i32_70 : BitVec 32 := 1#32
  let v234 : BitVec 32 := Scalar.select v233 c1_i32_70 c4_i32_68
  let v235 : BitVec 32 := Scalar.remsi v232 v234
  let c0_i32_72 : BitVec 32 := 0#32
  let v237 : BitVec 1 := Scalar.cmpi .slt v235 c0_i32_72
  let c0_i32_73 : BitVec 32 := 0#32
  let v238 : BitVec 1 := Scalar.cmpi .slt v234 c0_i32_73
  let v239 : BitVec 1 := Scalar.xori v237 v238
  let c0_i32_71 : BitVec 32 := 0#32
  let v236 : BitVec 1 := Scalar.cmpi .ne v235 c0_i32_71
  let v240 : BitVec 1 := Scalar.andi v239 v236
  let v241 : BitVec 32 := Scalar.addi v235 v234
  let v242 : BitVec 32 := Scalar.select v240 v241 v235
  let c1_i32_78 : BitVec 32 := 1#32
  let v243 : BitVec 32 := Scalar.muli v242 c1_i32_78
  let v244 : BitVec 32 := Scalar.addi c0_i32_79 v243
  v244.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_84 : BitVec 32 := 2#32
  let v253 : BitVec 32 := Scalar.addi v2 c2_i32_84
  let c4_i32_85 : BitVec 32 := 4#32
  let c0_i32_86 : BitVec 32 := 0#32
  let v254 : BitVec 1 := Scalar.cmpi .eq c4_i32_85 c0_i32_86
  let c1_i32_87 : BitVec 32 := 1#32
  let v255 : BitVec 32 := Scalar.select v254 c1_i32_87 c4_i32_85
  let v256 : BitVec 32 := Scalar.remsi v253 v255
  let c0_i32_89 : BitVec 32 := 0#32
  let v258 : BitVec 1 := Scalar.cmpi .slt v256 c0_i32_89
  let c0_i32_90 : BitVec 32 := 0#32
  let v259 : BitVec 1 := Scalar.cmpi .slt v255 c0_i32_90
  let v260 : BitVec 1 := Scalar.xori v258 v259
  let c0_i32_88 : BitVec 32 := 0#32
  let v257 : BitVec 1 := Scalar.cmpi .ne v256 c0_i32_88
  let v261 : BitVec 1 := Scalar.andi v260 v257
  let v262 : BitVec 32 := Scalar.addi v256 v255
  let v263 : BitVec 32 := Scalar.select v261 v262 v256
  let c1_i32_95 : BitVec 32 := 1#32
  let v264 : BitVec 32 := Scalar.muli v263 c1_i32_95
  let v265 : BitVec 32 := Scalar.addi c0_i32_96 v264
  v265.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_101 : BitVec 32 := 3#32
  let v274 : BitVec 32 := Scalar.addi v2 c3_i32_101
  let c4_i32_102 : BitVec 32 := 4#32
  let c0_i32_103 : BitVec 32 := 0#32
  let v275 : BitVec 1 := Scalar.cmpi .eq c4_i32_102 c0_i32_103
  let c1_i32_104 : BitVec 32 := 1#32
  let v276 : BitVec 32 := Scalar.select v275 c1_i32_104 c4_i32_102
  let v277 : BitVec 32 := Scalar.remsi v274 v276
  let c0_i32_106 : BitVec 32 := 0#32
  let v279 : BitVec 1 := Scalar.cmpi .slt v277 c0_i32_106
  let c0_i32_107 : BitVec 32 := 0#32
  let v280 : BitVec 1 := Scalar.cmpi .slt v276 c0_i32_107
  let v281 : BitVec 1 := Scalar.xori v279 v280
  let c0_i32_105 : BitVec 32 := 0#32
  let v278 : BitVec 1 := Scalar.cmpi .ne v277 c0_i32_105
  let v282 : BitVec 1 := Scalar.andi v281 v278
  let v283 : BitVec 32 := Scalar.addi v277 v276
  let v284 : BitVec 32 := Scalar.select v282 v283 v277
  let c1_i32_112 : BitVec 32 := 1#32
  let v285 : BitVec 32 := Scalar.muli v284 c1_i32_112
  let v286 : BitVec 32 := Scalar.addi c0_i32_113 v285
  v286.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .i32⟩
  | .hbm, ⟨4, _⟩ => ⟨S256x4096, .f32⟩
  | .hbm, ⟨5, _⟩ => ⟨S256x4096, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | .hbm, ⟨29, _⟩ => ⟨S256x8, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.Cols.lean ====
/-
# The kernel's two selections, written as recursions

On a device the kernel sorts, lane by lane, the eight slabs of 128 columns its block splits into, and then takes the
largest entry of each row eight times: the row's maximum is the maximum of the first slab; the lane it was found in has
its column of slabs moved up by one. `slabAt x t j` is slab `j` after `t` such steps, and `candCol x t` the column the
kernel stores at step `t`. The selection among the four devices' candidates is the same over one vector of 32 columns,
with the entry found overwritten by minus infinity: `mergeAt`, `outCol`.

The theorems say that the values the kernel's text computes are these, for any float values.
-/
module

public import proofs.«01_k».proof.Proof.Gen.KernelIdeal.Skeleton

@[expose] public section

noncomputable section

namespace Cert.TopK

open Cert.KernelIdeal Cert.KernelIdeal.Gen
open Idealize.ShloMosaic

variable {F : FTy → Type} [FloatOps F]

/-! ## A device's own eight -/

/-- Minus infinity everywhere: what stands below the eight sorted slabs. -/
def floorSlab : FVec F S256x128 .bf16 :=
  broadcast S256x128 (Scalar.truncf .bf16 bitsLt_bf16_f32 (Scalar.ofBits .f32 0xFF800000#32 : F .f32))

/-- The slabs after the sorting network, largest first. -/
def sortedAt (x : Vec F S256x1024 .bf16) : ℕ → FVec F S256x128 .bf16
  | 0 => k0_pay30 x
  | 1 => k0_pay42 (k0_pay32 x) (k0_pay38 x)
  | 2 => k0_pay43 (k0_pay32 x) (k0_pay38 x)
  | 3 => k0_pay44 (k0_pay31 x) (k0_pay33 x) (k0_pay34 x) (k0_pay36 x)
  | 4 => k0_pay45 (k0_pay31 x) (k0_pay33 x) (k0_pay34 x) (k0_pay36 x)
  | 5 => k0_pay46 (k0_pay33 x) (k0_pay35 x) (k0_pay36 x)
  | 6 => k0_pay47 (k0_pay33 x) (k0_pay35 x) (k0_pay36 x)
  | 7 => k0_pay37 x
  | _ => floorSlab

/-- Slab `j` after `t` steps: where the step found its lane, the slab below moves up. -/
def slabAt (x : Vec F S256x1024 .bf16) : ℕ → ℕ → FVec F S256x128 .bf16
  | 0, j => sortedAt x j
  | t + 1, j => select (k0_pay51 (slabAt x t 0)) (slabAt x t (j + 1)) (slabAt x t j)

/-- The column stored at step `t`: the rows' maxima. -/
def candCol (x : Vec F S256x1024 .bf16) (t : ℕ) : FVec F S1x256x1 .bf16 := k0_pay50 (slabAt x t 0)

section Local
variable (x : Vec F S256x1024 .bf16)

/-! The kernel's intermediate values, by the names its text gives them. -/

abbrev w108 := k0_pay52 (k0_pay30 x) (k0_pay32 x) (k0_pay38 x)
abbrev w109 := k0_pay53 (k0_pay30 x) (k0_pay32 x) (k0_pay38 x)
abbrev w110 := k0_pay54 (k0_pay30 x) (k0_pay31 x) (k0_pay32 x) (k0_pay33 x) (k0_pay34 x) (k0_pay36 x) (k0_pay38 x)
abbrev w111 := k0_pay55 (k0_pay30 x) (k0_pay31 x) (k0_pay33 x) (k0_pay34 x) (k0_pay36 x)
abbrev w112 := k0_pay56 (k0_pay30 x) (k0_pay31 x) (k0_pay33 x) (k0_pay34 x) (k0_pay35 x) (k0_pay36 x)
abbrev w113 := k0_pay57 (k0_pay30 x) (k0_pay33 x) (k0_pay35 x) (k0_pay36 x)
abbrev w114 := k0_pay58 (k0_pay30 x) (k0_pay33 x) (k0_pay35 x) (k0_pay36 x) (k0_pay37 x)
abbrev w127 := k0_pay61 (k0_pay30 x) (k0_pay32 x) (k0_pay38 x)

theorem w108_eq : w108 x = slabAt x 1 0 := rfl
theorem w109_eq : w109 x = slabAt x 1 1 := rfl
theorem w110_eq : w110 x = slabAt x 1 2 := rfl
theorem w111_eq : w111 x = slabAt x 1 3 := rfl
theorem w112_eq : w112 x = slabAt x 1 4 := rfl
theorem w113_eq : w113 x = slabAt x 1 5 := rfl
theorem w114_eq : w114 x = slabAt x 1 6 := rfl

/-- The hit of the second step, from the row minimum the kernel keeps. -/
theorem hit1_eq : k0_pay62 k0_pay48 (w127 x) = k0_pay51 (slabAt x 1 0) := rfl

abbrev w154 := k0_pay74 k0_pay48 (w108 x) (w109 x) (w111 x) (w112 x) (w113 x) (w127 x)
abbrev w155 := k0_pay75 k0_pay48 (w108 x) (w109 x) (w112 x) (w113 x) (w114 x) (w127 x)
abbrev w170 := k0_pay78 k0_pay48 (w108 x) (w109 x) (w110 x) (w127 x)
abbrev w171 := k0_pay79 k0_pay48 (w108 x) (w109 x) (w110 x) (w111 x) (w127 x)
abbrev w172 := k0_pay80 k0_pay48 (w108 x) (w109 x) (w110 x) (w111 x) (w112 x) (w127 x)
abbrev w173 := k0_pay81 k0_pay48 (w108 x) (w109 x) (w110 x) (w111 x) (w112 x) (w113 x) (w127 x)

/-- Slab `j` of the second step, in the kernel's form. -/
theorem slab2_eq (j : ℕ) :
    select (k0_pay62 k0_pay48 (w127 x)) (slabAt x 1 (j + 1)) (slabAt x 1 j) = slabAt x 2 j := by rw [hit1_eq]; rfl

theorem p63_eq : k0_pay63 k0_pay48 (w108 x) (w109 x) (w127 x) = slabAt x 2 0 := slab2_eq x 0
theorem p64_eq : k0_pay64 k0_pay48 (w109 x) (w110 x) (w127 x) = slabAt x 2 1 := slab2_eq x 1
theorem p65_eq : k0_pay65 k0_pay48 (w110 x) (w111 x) (w127 x) = slabAt x 2 2 := slab2_eq x 2
theorem p66_eq : k0_pay66 k0_pay48 (w111 x) (w112 x) (w127 x) = slabAt x 2 3 := slab2_eq x 3
theorem p67_eq : k0_pay67 k0_pay48 (w112 x) (w113 x) (w127 x) = slabAt x 2 4 := slab2_eq x 4

theorem hit2_eq : k0_pay70 k0_pay48 (w108 x) (w109 x) (w127 x) = k0_pay51 (slabAt x 2 0) := by rw [← p63_eq]; rfl
theorem p71_eq : k0_pay71 k0_pay48 (w108 x) (w109 x) (w110 x) (w127 x) = slabAt x 3 0 := by
  unfold k0_pay71; rw [hit2_eq, p64_eq, p63_eq]; rfl
theorem p72_eq : k0_pay72 k0_pay48 (w108 x) (w109 x) (w110 x) (w111 x) (w127 x) = slabAt x 3 1 := by
  unfold k0_pay72; rw [hit2_eq, p65_eq, p64_eq]; rfl
theorem p73_eq : k0_pay73 k0_pay48 (w108 x) (w109 x) (w110 x) (w111 x) (w112 x) (w127 x) = slabAt x 3 2 := by
  unfold k0_pay73; rw [hit2_eq, p66_eq, p65_eq]; rfl
theorem p74_eq : w154 x = slabAt x 3 3 := by
  unfold w154 k0_pay74; rw [hit2_eq, p67_eq, p66_eq]; rfl
theorem p75_eq : w155 x = slabAt x 3 4 := by
  unfold w155 k0_pay75; rw [hit2_eq, p67_eq]
  show select _ (select (k0_pay62 k0_pay48 (w127 x)) (slabAt x 1 6) (slabAt x 1 5)) _ = _
  rw [slab2_eq]; rfl

theorem hit3_eq : w170 x = k0_pay51 (slabAt x 3 0) := by rw [← p71_eq]; rfl
theorem w171_eq : w171 x = slabAt x 4 0 := by
  unfold w171 k0_pay79; rw [p72_eq, p71_eq]
  show select (w170 x) _ _ = _
  rw [hit3_eq]; rfl
theorem w172_eq : w172 x = slabAt x 4 1 := by
  unfold w172 k0_pay80; rw [p73_eq, p72_eq]
  show select (w170 x) _ _ = _
  rw [hit3_eq]; rfl
theorem w173_eq : w173 x = slabAt x 4 2 := by
  unfold w173 k0_pay81; rw [p73_eq]
  show select (w170 x) (w154 x) _ = _
  rw [hit3_eq, p74_eq]; rfl

abbrev w208 := k0_pay90 k0_pay48 (w171 x) (w172 x) (w173 x)
abbrev w209 := k0_pay91 k0_pay48 (w154 x) (w155 x) (w170 x) (w171 x) (w172 x) (w173 x)
abbrev w211 := k0_pay92 k0_pay48 (w171 x) (w172 x) (w173 x)

theorem hit4_eq : k0_pay84 k0_pay48 (w171 x) = k0_pay51 (slabAt x 4 0) := by rw [← w171_eq]; rfl
theorem p85_eq : k0_pay85 k0_pay48 (w171 x) (w172 x) = slabAt x 5 0 := by
  unfold k0_pay85; rw [hit4_eq, w172_eq, w171_eq]; rfl
theorem p86_eq : k0_pay86 k0_pay48 (w171 x) (w172 x) (w173 x) = slabAt x 5 1 := by
  unfold k0_pay86; rw [hit4_eq, w173_eq, w172_eq]; rfl
theorem hit5_eq : k0_pay89 k0_pay48 (w171 x) (w172 x) = k0_pay51 (slabAt x 5 0) := by rw [← p85_eq]; rfl
theorem w208_eq : w208 x = slabAt x 6 0 := by
  unfold w208 k0_pay90; rw [hit5_eq, p86_eq, p85_eq]; rfl
theorem w209_eq : w209 x = slabAt x 6 1 := by
  unfold w209 k0_pay91; rw [hit5_eq, p86_eq, hit4_eq, hit3_eq, p75_eq, p74_eq, w173_eq]; rfl
theorem w211_eq : w211 x = k0_pay49 (slabAt x 6 0) := by rw [← w208_eq]; rfl

/-! The eight columns stored. -/

theorem stored0 : k0_pay50 (k0_pay30 x) = candCol x 0 := rfl
theorem stored1 : k0_pay60 (k0_pay30 x) (k0_pay32 x) (k0_pay38 x) = candCol x 1 := rfl
theorem stored2 : k0_pay69 k0_pay48 (w108 x) (w109 x) (w127 x) = candCol x 2 := by
  unfold candCol; rw [← p63_eq]; rfl
theorem stored3 : k0_pay77 k0_pay48 (w108 x) (w109 x) (w110 x) (w127 x) = candCol x 3 := by
  unfold candCol; rw [← p71_eq]; rfl
theorem stored4 : k0_pay83 (w171 x) = candCol x 4 := by unfold candCol; rw [← w171_eq]; rfl
theorem stored5 : k0_pay88 k0_pay48 (w171 x) (w172 x) = candCol x 5 := by unfold candCol; rw [← p85_eq]; rfl
theorem stored6 : k0_pay93 k0_pay48 (w171 x) (w172 x) (w173 x) = candCol x 6 := by unfold candCol; rw [← w208_eq]; rfl
theorem stored7 : k0_pay94 k0_pay48 (w208 x) (w209 x) (w211 x) = candCol x 7 := by
  rw [w211_eq, w209_eq, w208_eq]; rfl

end Local

/-! ## Among the four devices' candidates -/

/-- The candidates after `t` of the eight picks. -/
def mergeAt (f : FVec F S256x32 .bf16) : ℕ → FVec F S256x32 .bf16
  | 0 => f
  | t + 1 => k0_pay109 k0_pay96 (mergeAt f t)

/-- The result's column `t`. -/
def outCol (f : FVec F S256x32 .bf16) (t : ℕ) : FVec F S256x1 .bf16 := k0_pay108 (mergeAt f t)

section Merge
variable (a b c d : Vec F S1x256x8 .bf16)

abbrev z327 := k0_pay95 a b c d
abbrev z340 := k0_pay99 a b c d
abbrev z383 := k0_pay106 (z327 a b c d) k0_pay96 (z340 a b c d)
abbrev z419 := k0_pay112 k0_pay96 (z383 a b c d)
abbrev z426 := k0_pay115 k0_pay96 (z383 a b c d)

theorem q100_eq : k0_pay100 (z327 a b c d) k0_pay96 (z340 a b c d) = mergeAt (z327 a b c d) 1 := rfl
theorem q103_eq : k0_pay103 (z327 a b c d) k0_pay96 (z340 a b c d) = mergeAt (z327 a b c d) 2 := by
  show _ = k0_pay109 k0_pay96 (mergeAt (z327 a b c d) 1)
  rw [← q100_eq]; rfl
theorem z383_eq : z383 a b c d = mergeAt (z327 a b c d) 3 := by
  show _ = k0_pay109 k0_pay96 (mergeAt (z327 a b c d) 2)
  rw [← q103_eq]; rfl
theorem q109_eq : k0_pay109 k0_pay96 (z383 a b c d) = mergeAt (z327 a b c d) 4 := by rw [z383_eq]; rfl
theorem z419_eq : z419 a b c d = mergeAt (z327 a b c d) 5 := by
  show _ = k0_pay109 k0_pay96 (mergeAt (z327 a b c d) 4)
  rw [← q109_eq]; rfl
theorem q116_eq : k0_pay116 k0_pay96 (z419 a b c d) (z426 a b c d) = mergeAt (z327 a b c d) 6 := by
  show _ = k0_pay109 k0_pay96 (mergeAt (z327 a b c d) 5)
  rw [← z419_eq]; rfl

theorem out0 : k0_pay98 a b c d = outCol (z327 a b c d) 0 := rfl
theorem out1 : k0_pay102 (z327 a b c d) k0_pay96 (z340 a b c d) = outCol (z327 a b c d) 1 := by
  unfold outCol; rw [← q100_eq]; rfl
theorem out2 : k0_pay105 (z327 a b c d) k0_pay96 (z340 a b c d) = outCol (z327 a b c d) 2 := by
  unfold outCol; rw [← q103_eq]; rfl
theorem out3 : k0_pay108 (z383 a b c d) = outCol (z327 a b c d) 3 := by unfold outCol; rw [← z383_eq]
theorem out4 : k0_pay111 k0_pay96 (z383 a b c d) = outCol (z327 a b c d) 4 := by unfold outCol; rw [← q109_eq]; rfl
theorem out5 : k0_pay114 k0_pay96 (z383 a b c d) = outCol (z327 a b c d) 5 := by unfold outCol; rw [← z419_eq]; rfl
theorem out6 : k0_pay118 k0_pay96 (z419 a b c d) (z426 a b c d) = outCol (z327 a b c d) 6 := by
  unfold outCol; rw [← q116_eq]; rfl
theorem out7 : k0_pay119 k0_pay96 (z419 a b c d) (z426 a b c d) = outCol (z327 a b c d) 7 := by
  show _ = k0_pay108 (k0_pay109 k0_pay96 (mergeAt (z327 a b c d) 6))
  rw [← q116_eq]; rfl

end Merge

end Cert.TopK

end
-- ==== Proof.Wires.lean ====
/-
# The exchange's buffers, semaphores and contents

Each device has a scratch buffer of four slots of 256×8 candidates. Slot 0 is its own; its transfer number `j` (`j` of
0, 1, 2) writes slot `3 - j` of the device `j + 1` places further on, on that device's receive semaphore `j`. So slot
`k` of device `c` ends with the candidates of device `c + k`, and what the buffer then holds is one function, `gath`,
of which every slot is a part.
-/
module

public import proofs.«01_k».proof.Proof.Cols
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, duties named by `Fin 3` -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Who talks to whom -/

set_option backward.proofsInPublic true in
/-- The device `k` places further on. -/
def ahead (k : Fin 4) (c : Dev nD) : Dev nD := ⟨(c.val + k.val) % 4, Nat.mod_lt _ (by decide)⟩

/-- Where transfer and signal number `j` of device `c` go. -/
abbrev peer (j : Fin 3) (c : Dev nD) : Dev nD := ahead j.succ c
/-- Where number `j` of what device `c` gets comes from. -/
abbrev back (j : Fin 3) (c : Dev nD) : Dev nD := ahead j.rev.succ c
/-- The slot transfer number `j` writes. -/
abbrev dstSlot (j : Fin 3) : Fin 4 := j.rev.succ

theorem back_peer (j : Fin 3) (c : Dev nD) : back j (peer j c) = c := by revert j c; decide
theorem peer_back (j : Fin 3) (c : Dev nD) : peer j (back j c) = c := by revert j c; decide
theorem ahead_zero (c : Dev nD) : ahead 0 c = c := by revert c; decide

/-- Going `j` ahead, for each `j`, as one re-indexing of (device, number) pairs. -/
def shift : Dev nD × Fin 3 ≃ Dev nD × Fin 3 where
  toFun x := (peer x.2 x.1, x.2)
  invFun x := (back x.2 x.1, x.2)
  left_inv x := by simp only [back_peer]
  right_inv x := by simp only [peer_back]

/-- The devices the kernel computes for its three signals, then for its three transfers. -/
theorem sig_dev0 (c : Dev nD) : (⟨k0_dev1 c, k0_dev1_lt c⟩ : Dev nD) = peer 0 c := by revert c; decide +kernel
theorem sig_dev1 (c : Dev nD) : (⟨k0_dev2 c, k0_dev2_lt c⟩ : Dev nD) = peer 1 c := by revert c; decide +kernel
theorem sig_dev2 (c : Dev nD) : (⟨k0_dev3 c, k0_dev3_lt c⟩ : Dev nD) = peer 2 c := by revert c; decide +kernel
theorem dma_dev0 (c : Dev nD) : (⟨k0_dev4 c, k0_dev4_lt c⟩ : Dev nD) = peer 0 c := by revert c; decide +kernel
theorem dma_dev1 (c : Dev nD) : (⟨k0_dev5 c, k0_dev5_lt c⟩ : Dev nD) = peer 1 c := by revert c; decide +kernel
theorem dma_dev2 (c : Dev nD) : (⟨k0_dev6 c, k0_dev6_lt c⟩ : Dev nD) = peer 2 c := by revert c; decide +kernel

/-! ## Memrefs and semaphores -/

abbrev xM : Memref sig .tc .vmem S256x1024 .bf16 := Memref.whole cc0_stg0_0
abbrev oM : Memref sig .tc .vmem S256x8 .bf16 := Memref.whole cc0_stg1_0
abbrev gM : Memref sig .tc .vmem S4x256x8 .bf16 := Memref.whole cc0_scratch0

theorem slot_inb (k : Fin 4) : ∀ a, (![k.val, 0, 0] : Fin 3 → Nat) a + S1x256x8.size a ≤ S4x256x8.size a := by
  revert k; decide
abbrev slotRect (k : Fin 4) : Rect S4x256x8 := Rect.unit (s := S4x256x8) ![k.val, 0, 0] S1x256x8.size (slot_inb k)
/-- Slot `k` of the scratch buffer. -/
abbrev slotM (k : Fin 4) : Memref sig .tc .vmem S256x8 .bf16 :=
  (gM.slice (slotRect k) (fun _ => rfl)).squeeze S256x8 squeezes_S1x256x8_S256x8

/-- The barrier semaphore, shared by every kernel of its id. -/
abbrev barS : Sem sig := (SemArray.scalar (sig.barrier 0 rfl) : Sems sig S_).sem
theorem sem_inb (j : Fin 3) : ∀ a, (![j.val] : Fin 1 → Nat) a + S1.size a ≤ S3.size a := by revert j; decide
abbrev sndS (j : Fin 3) : DmaSem sig :=
  ((cc0_scratch1.slice (Rect.unit (s := S3) ![j.val] S1.size (sem_inb j))).squeeze S_ squeezes_S1_S_).sem
abbrev rcvS (j : Fin 3) : DmaSem sig :=
  ((cc0_scratch2.slice (Rect.unit (s := S3) ![j.val] S1.size (sem_inb j))).squeeze S_ squeezes_S1_S_).sem

theorem sndS_inj : ∀ i j, sndS i = sndS j → i = j := by decide
theorem rcvS_inj : ∀ i j, rcvS i = rcvS j → i = j := by decide
theorem snd_ne_rcv : ∀ i j, sndS i ≠ rcvS j := by decide

abbrev barCell (c : Dev nD) : GSem nD τ sig := ((c : Thread nD τ), .reg barS)
abbrev sndCell (j : Fin 3) (c : Dev nD) : GSem nD τ sig := ((c : Thread nD τ), .dma (sndS j))
abbrev rcvCell (j : Fin 3) (c : Dev nD) : GSem nD τ sig := ((c : Thread nD τ), .dma (rcvS j))

/-- The kernel's own six semaphores; -/
abbrev osem : Fin 6 → SemLoc sig
  | 0 => .dma (sndS 0) | 1 => .dma (sndS 1) | 2 => .dma (sndS 2)
  | 3 => .dma (rcvS 0) | 4 => .dma (rcvS 1) | 5 => .dma (rcvS 2)
/-- with the barrier's, all seven of the exchange. -/
abbrev csem : Fin 7 → SemLoc sig
  | 0 => .reg barS
  | 1 => .dma (sndS 0) | 2 => .dma (sndS 1) | 3 => .dma (sndS 2)
  | 4 => .dma (rcvS 0) | 5 => .dma (rcvS 1) | 6 => .dma (rcvS 2)
abbrev kcell (ck : Dev nD × Fin 7) : GSem nD τ sig := ((ck.1 : Thread nD τ), csem ck.2)
/-- The place of send semaphore `j`, and of receive semaphore `j`, among the seven. -/
abbrev sndIx (j : Fin 3) : Fin 7 := ⟨j.val + 1, by omega⟩
abbrev rcvIx (j : Fin 3) : Fin 7 := ⟨j.val + 4, by omega⟩
theorem kcell_snd (j : Fin 3) (c : Dev nD) : kcell (c, sndIx j) = sndCell j c := by fin_cases j <;> rfl
theorem kcell_rcv (j : Fin 3) (c : Dev nD) : kcell (c, rcvIx j) = rcvCell j c := by fin_cases j <;> rfl

/-- What one transfer credits. -/
abbrev N : ℕ := (slotM 0).view.dmaCredit
theorem N_slot (k : Fin 4) : (slotM k).view.dmaCredit = N := rfl
theorem N_pos : 0 < N := View.dmaCredit_pos _ (by decide)

/-! ## Indices -/

set_option backward.proofsInPublic true in
/-- Slot, row, column. -/
def at3 (k : Fin 4) (r : Fin 256) (t : Fin 8) : S4x256x8.Idx
  | ⟨0, _⟩ => k
  | ⟨1, _⟩ => r
  | ⟨2, _⟩ => t
set_option backward.proofsInPublic true in
/-- Row `r` of a stored column. -/
def at1 (r : Fin 256) : S1x256x1.Idx
  | ⟨0, _⟩ => (0 : Fin 1)
  | ⟨1, _⟩ => r
  | ⟨2, _⟩ => (0 : Fin 1)

theorem at3_eta (i : S4x256x8.Idx) : at3 (i 0) (i 1) (i 2) = i := by
  funext a; fin_cases a <;> rfl

/-! ## Contents -/

variable (m : (ℓ : Loc nD τ sig) → Buf (Elt F) ℓ)

/-- Device `c`'s block of the argument, as staged. -/
def xstg (c : Dev nD) : (cc0_stg0_0 : Ref sig .tc).ty.Contents (Elt F) :=
  (win0_0.blk (0 : Fin 1)).view.read (Elt F) (m ((c : Thread nD τ).loc main_arg0))

/-- The gathered candidates: slot `k` is device `c + k`'s. -/
def gath (c : Dev nD) : (cc0_scratch0 : Ref sig .tc).ty.Contents (Elt F) :=
  fun i : S4x256x8.Idx => candCol (F := F) (xstg m (ahead (i 0) c)) (i 2).val (at1 (i 1))

/-- Device `c`'s slot `k`, at share `q`, holding `f`. -/
def slotAt (k : Fin 4) (c : Dev nD) (q : PosShare TreeShare) (f : (cc0_scratch0 : Ref sig .tc).ty.Contents (Elt F)) : sProp 𝕄 :=
  (slotM k).view.loc (c : Thread nD τ) ↦[(slotM k).view.set]{q} f

omit [FloatOps F] in
instance slotAt_storable (k : Fin 4) (c : Dev nD) (q) (f) : BI.Storable (upEmb : UEmb _ 𝕄) (slotAt (F := F) k c q f) := by
  unfold slotAt; infer_instance

/-! ### The slots' elements -/

/-- The elements of slot `k`. -/
abbrev slotSet (k : Fin 4) : Finset S4x256x8.Idx := (slotM k).view.set

theorem slot_set (k : Fin 4) : slotSet k = (slotRect k).set :=
  (View.set_reshape _ _).trans (View.set_slice_whole cc0_scratch0 (slotRect k))

theorem mem_slot (k : Fin 4) (i : S4x256x8.Idx) : Iff (i ∈ slotSet k) (i 0 = k) := by
  rw [slot_set]
  refine (Rect.mem_set_unit (s := S4x256x8)).trans ⟨fun h => Fin.ext ?_, fun h a => ?_⟩
  · have := h 0
    simp at this
    omega
  · subst h
    fin_cases a
    · exact ⟨Nat.le_refl _, Nat.lt_succ_self _⟩
    · exact ⟨Nat.zero_le _, by simpa using (i 1).isLt⟩
    · exact ⟨Nat.zero_le _, by simpa using (i 2).isLt⟩

theorem slots_disjoint {k k' : Fin 4} (h : k ≠ k') : Disjoint (slotSet k) (slotSet k') :=
  Finset.disjoint_left.mpr fun i hi hi' => h (((mem_slot k i).mp hi).symm.trans ((mem_slot k' i).mp hi'))

theorem slots_cover : (Finset.univ : Finset (Fin 4)).biUnion slotSet = Finset.univ := by
  ext i
  simp only [Finset.mem_biUnion, Finset.mem_univ, true_and, iff_true]
  exact ⟨i 0, (mem_slot _ i).mpr rfl⟩

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The whole scratch buffer is its four slots. -/
theorem scratch_slots (c : Dev nD) (f : (cc0_scratch0 : Ref sig .tc).ty.Contents (Elt F)) :
    (((c : Thread nD τ).loc cc0_scratch0) ↦{fullShare} f : sProp 𝕄)
      = iprop(slotAt 0 c fullShare f ∗ slotAt 1 c fullShare f ∗ slotAt 2 c fullShare f ∗ slotAt 3 c fullShare f) := by
  rw [← bigSep_fin4 (fun k => slotAt k c fullShare f)]
  unfold slotAt
  refine Eq.trans ?_ (pointsTo_biUnion (ℓ := (c : Thread nD τ).loc cc0_scratch0) Finset.univ slotSet
    (fun k _ k' _ h => slots_disjoint h))
  rw [slots_cover]

/-- Index `x` of slot `k`, in the buffer. -/
theorem slot_emb (k : Fin 4) (x : S256x8.Idx) : (slotM k).view.emb x = at3 k (x 0) (x 1) := by
  show (slotRect k).emb (Shape.reshapeEquiv _ x) = _
  rw [Shape.reshapeEquiv_cons_one]
  funext a; apply Fin.ext
  fin_cases a
  · show k.val + 1 * 0 = k.val; omega
  · show 0 + 1 * (x 0).val = (x 0).val; omega
  · show 0 + 1 * (x 1).val = (x 1).val; omega

/-- What a transfer leaves in slot `k`: slot 0 of the source's contents. -/
theorem landed_at (k : Fin 4) (fd fs : (cc0_scratch0 : Ref sig .tc).ty.Contents (Elt F)) (i : S4x256x8.Idx) (hi : i ∈ slotSet k) :
    (slotM k).view.write (Elt F) fd ((slotM 0).view.read (Elt F) fs) Finset.univ i = fs (at3 0 (i 1) (i 2)) := by
  have hk := (mem_slot k i).mp hi
  have he : i = (slotM k).view.emb (Shape.pair (i 1) (i 2)) := by
    rw [slot_emb]; conv_lhs => rw [← at3_eta i, hk]
    rfl
  conv_lhs => rw [he]
  refine (View.write_emb_of_mem _ _ (Finset.mem_univ _)).trans ?_
  show fs ((slotM 0).view.emb (Shape.pair (i 1) (i 2))) = _
  rw [slot_emb]; rfl

theorem ahead_dst (j : Fin 3) (c : Dev nD) : ahead (dstSlot j) (peer j c) = c := by revert j c; decide

/-- Transfer `j` of device `c` leaves in its slot what the destination's gathered contents have there. -/
theorem landed_gath (j : Fin 3) (c : Dev nD) (fd : (cc0_scratch0 : Ref sig .tc).ty.Contents (Elt F)) (i : S4x256x8.Idx)
    (hi : i ∈ slotSet (dstSlot j)) :
    (slotM (dstSlot j)).view.write (Elt F) fd ((slotM 0).view.read (Elt F) (gath m c)) Finset.univ i = gath m (peer j c) i := by
  rw [landed_at _ _ _ _ hi]
  show candCol (xstg m (ahead 0 c)) (i 2).val (at1 (i 1)) = candCol (xstg m (ahead (i 0) (peer j c))) (i 2).val (at1 (i 1))
  rw [ahead_zero, (mem_slot _ i).mp hi, ahead_dst]

end Cert.TopK

end
-- ==== Proof.Sched.lean ====
/-
# The exchange's schedule

Every semaphore of the exchange is used for one round. A device's barrier is raised once by each of the other three;
the raise numbered `j` comes from the device `back j` and brings with it slot `j + 1` of that device, which is the slot
the transfer back to it writes. A receive semaphore is raised by the landing of one transfer and brings the slot with
what landed; a send semaphore brings back the share of slot 0 the transfer read. A device waits for its three barrier
raises before it owes nothing but landings, and for the landings when it owes nothing: so barriers stand below
landings.
-/
module

public import proofs.«01_k».proof.Proof.Wires

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a semaphore is for -/

/-- The part a semaphore has in the exchange. -/
inductive Role
  | bar | snd (j : Fin 3) | rcv (j : Fin 3) | other

/-- Read off its number. -/
def role : SemLoc sig → Role
  | .reg s => if s = barS then .bar else .other
  | .dma q =>
    if q = sndS 0 then .snd 0 else if q = sndS 1 then .snd 1 else if q = sndS 2 then .snd 2
    else if q = rcvS 0 then .rcv 0 else if q = rcvS 1 then .rcv 1 else if q = rcvS 2 then .rcv 2 else .other

theorem role_bar : role (.reg barS) = .bar := rfl
theorem role_snd (j : Fin 3) : role (.dma (sndS j)) = .snd j := by fin_cases j <;> rfl
theorem role_rcv (j : Fin 3) : role (.dma (rcvS j)) = .rcv j := by fin_cases j <;> rfl

/-! ## What changes hands -/

/-- The shares of slot 0 the three transfers read, -/
def lent : Fin 3 → PosShare TreeShare
  | 0 => fullShare.left.left | 1 => fullShare.left.right | 2 => fullShare.right.left
/-- and the one kept. -/
def kept : PosShare TreeShare := fullShare.right.right

omit [FloatOps F] in
/-- Slot 0 whole is the three lent shares and the kept one. -/
theorem slot_shares (c : Dev nD) (f : (cc0_scratch0 : Ref sig .tc).ty.Contents (Elt F)) :
    slotAt 0 c fullShare f ⊣⊢ (iprop((slotAt 0 c (lent 0) f ∗ slotAt 0 c (lent 1) f) ∗ slotAt 0 c (lent 2) f ∗ slotAt 0 c kept f) : sProp 𝕄) := by
  unfold slotAt lent kept
  have top := pointsTo_share (Ix := Unit) (Name := ℕ) (U := UU) (Lvl := ℕ) (ℓ := (slotM 0).view.loc (c : Thread nD τ)) (I := (slotM 0).view.set) (f := f)
    (PosShare.mem_left_op_right fullShare)
  have lo := pointsTo_share (Ix := Unit) (Name := ℕ) (U := UU) (Lvl := ℕ) (ℓ := (slotM 0).view.loc (c : Thread nD τ)) (I := (slotM 0).view.set) (f := f)
    (PosShare.mem_left_op_right fullShare.left)
  have hi := pointsTo_share (Ix := Unit) (Name := ℕ) (U := UU) (Lvl := ℕ) (ℓ := (slotM 0).view.loc (c : Thread nD τ)) (I := (slotM 0).view.set) (f := f)
    (PosShare.mem_left_op_right fullShare.right)
  exact ⟨top.1.trans (BIClass.sep_mono lo.1 hi.1), (BIClass.sep_mono lo.2 hi.2).trans top.2⟩

/-- Raise `j` of device `c`'s barrier brings slot `j + 1` of the device it comes from, -/
def barPay (j : Fin 3) (c : Dev nD) : sProp 𝕄 := iprop(∃ f, slotAt j.succ (back j c) fullShare f)
/-- a landing the slot it filled, -/
def rcvPay (j : Fin 3) (c : Dev nD) : sProp 𝕄 := slotAt (dstSlot j) c fullShare (gath m c)
/-- a transfer's completion the share of slot 0 it read. -/
def sndPay (j : Fin 3) (c : Dev nD) : sProp 𝕄 := slotAt 0 c (lent j) (gath m c)

def sched : Rounds.Schedule (GSem nD τ sig) (Fin 3) 𝕄 where
  duties g r := if r = 0 ∧ g.1.2 = .tc then
      match role g.2 with | .bar => Finset.univ | .snd _ => {0} | .rcv _ => {0} | .other => ∅
    else ∅
  unitless _ := False
  amount g _ _ := match role g.2 with | .bar => 1 | _ => N
  payload g _ d := match role g.2 with
    | .bar => barPay d g.1.1 | .snd j => sndPay m j g.1.1 | .rcv j => rcvPay m j g.1.1 | .other => iprop(emp)
  amount_pos g _ _ _ := by split; exacts [Nat.one_pos, N_pos]

instance sched_payload_storable (g : GSem nD τ sig) (r : ℕ) (d : Fin 3) :
    BI.Storable (upEmb : UEmb _ 𝕄) ((sched (F := F) m).payload g r d) := by
  show BI.Storable upEmb (match role g.2 with
    | .bar => barPay d g.1.1 | .snd j => sndPay m j g.1.1 | .rcv j => rcvPay m j g.1.1 | .other => iprop(emp))
  unfold barPay sndPay rcvPay
  split <;> infer_instance

section Facts
variable (j : Fin 3) (c : Dev nD)

theorem duties_bar : (sched (F := F) m).duties (barCell c) 0 = Finset.univ := rfl
theorem duties_snd : (sched (F := F) m).duties (sndCell j c) 0 = {0} := by
  dsimp only [sched]; rw [if_pos ⟨rfl, rfl⟩, role_snd]
theorem duties_rcv : (sched (F := F) m).duties (rcvCell j c) 0 = {0} := by
  dsimp only [sched]; rw [if_pos ⟨rfl, rfl⟩, role_rcv]
theorem duties_later (g : GSem nD τ sig) : ∀ r, 1 ≤ r → (sched (F := F) m).duties g r = ∅ :=
  fun r hr => by dsimp only [sched]; exact if_neg fun h => by omega

theorem amount_bar (d : Fin 3) : (sched (F := F) m).amount (barCell c) 0 d = 1 := rfl
theorem amount_snd (d : Fin 3) : (sched (F := F) m).amount (sndCell j c) 0 d = N := by dsimp only [sched]; rw [role_snd]
theorem amount_rcv (d : Fin 3) : (sched (F := F) m).amount (rcvCell j c) 0 d = N := by dsimp only [sched]; rw [role_rcv]

theorem payload_bar (d : Fin 3) : (sched (F := F) m).payload (barCell c) 0 d = barPay d c := rfl
theorem payload_snd (d : Fin 3) : (sched (F := F) m).payload (sndCell j c) 0 d = sndPay m j c := by dsimp only [sched]; rw [role_snd]
theorem payload_rcv (d : Fin 3) : (sched (F := F) m).payload (rcvCell j c) 0 d = rcvPay m j c := by dsimp only [sched]; rw [role_rcv]

theorem expect_bar : (sched (F := F) m).expect (barCell c) 0 = 3 := rfl
theorem expect_snd : (sched (F := F) m).expect (sndCell j c) 0 = N := by
  unfold Schedule.expect Schedule.amountOf; rw [duties_snd, Finset.sum_singleton, amount_snd]
theorem expect_rcv : (sched (F := F) m).expect (rcvCell j c) 0 = N := by
  unfold Schedule.expect Schedule.amountOf; rw [duties_rcv, Finset.sum_singleton, amount_rcv]

theorem rest_bar : bigSep ((sched (F := F) m).duties (barCell c) 0 \ ∅) (fun d => (sched (F := F) m).payload (barCell c) 0 d)
    = iprop(barPay 0 c ∗ barPay 1 c ∗ barPay 2 c) := by
  rw [Finset.sdiff_empty, duties_bar, bigSep_fin3]; rfl
theorem rest_snd : bigSep ((sched (F := F) m).duties (sndCell j c) 0 \ ∅) (fun d => (sched (F := F) m).payload (sndCell j c) 0 d) = sndPay m j c := by
  rw [Finset.sdiff_empty, duties_snd, bigSep_singleton, payload_snd]
theorem rest_rcv : bigSep ((sched (F := F) m).duties (rcvCell j c) 0 \ ∅) (fun d => (sched (F := F) m).payload (rcvCell j c) 0 d) = rcvPay m j c := by
  rw [Finset.sdiff_empty, duties_rcv, bigSep_singleton, payload_rcv]

end Facts

/-! ## What each device owes, and the levels -/

/-- The landing transfer `j` owes its destination, -/
abbrev owL (j : Fin 3) (c : Dev nD) : CellTallies nD τ sig Unit := tallyAt (rcvCell j (peer j c)) () N
/-- and raise `j` its barrier. -/
abbrev owB (j : Fin 3) (c : Dev nD) : CellTallies nD τ sig Unit := tallyAt (barCell (peer j c)) () 1

/-- The three landings, in the order that the transfers, started 0, 1, 2, take them off the end; -/
def owedL (c : Dev nD) : CellTallies nD τ sig Unit := owL 2 c + owL 1 c + owL 0 c
/-- with the three raises, what device `c` owes at the start. -/
def owed (c : Dev nD) : CellTallies nD τ sig Unit := owedL c + owB 2 c + owB 1 c + owB 0 c

theorem owed_eq (c : Dev nD) : owed c = (∑ j, owL j c) + ∑ j, owB j c := by
  unfold owed owedL; rw [Fin.sum_univ_three, Fin.sum_univ_three]; ac_rfl

def L (g : GSem nD τ sig) : Finset Unit := if g.1.2 = .tc then {()} else ∅
/-- Barriers at 1, receive semaphores at 2, all else at 0. -/
def lv (g : GSem nD τ sig) (_ : Unit) : ℕ := match role g.2 with | .bar => 1 | .rcv _ => 2 | _ => 0

theorem L_of_ne (g : GSem nD τ sig) (h : g.1.2 ≠ .tc) : L g = ∅ := if_neg h
theorem mem_L {g : GSem nD τ sig} (h : g.1.2 = .tc) (u : Unit) : u ∈ L g := by
  unfold L; rw [if_pos h]; exact Finset.mem_singleton_self _
theorem lv_rcv (j : Fin 3) (c : Dev nD) (u : Unit) : lv (rcvCell j c) u = 2 := by unfold lv; rw [role_rcv]

theorem tally_pos {g₀ g : GSem nD τ sig} {u : Unit} {k : ℕ} (h : 0 < (tallyAt g₀ () k : CellTallies nD τ sig Unit) g u) : g = g₀ := by
  rw [tallyAt_apply] at h
  by_contra hn
  rw [if_neg (fun h' => hn h'.1)] at h
  exact Nat.lt_irrefl 0 h

theorem add_pos_or {O O' : CellTallies nD τ sig Unit} {g : GSem nD τ sig} {u : Unit} (h : 0 < (O + O') g u) :
    0 < O g u ∨ 0 < O' g u := by
  rw [Pi.add_apply, Finsupp.add_apply] at h; omega

/-- What is owed of landings is owed to receive semaphores. -/
theorem owedL_pos {c : Dev nD} {g : GSem nD τ sig} {u : Unit} (h : 0 < owedL c g u) : g.1.2 = .tc ∧ lv g u = 2 := by
  unfold owedL at h
  rcases add_pos_or h with h | h
  · rcases add_pos_or h with h | h <;> (rw [tally_pos h]; exact ⟨rfl, lv_rcv _ _ _⟩)
  · rw [tally_pos h]; exact ⟨rfl, lv_rcv _ _ _⟩

theorem owed_pos {c : Dev nD} {g : GSem nD τ sig} {u : Unit} (h : 0 < owed c g u) : g.1.2 = .tc ∧ 0 < lv g u := by
  unfold owed at h
  rcases add_pos_or h with h | h
  · rcases add_pos_or h with h | h
    · rcases add_pos_or h with h | h
      · have := owedL_pos h; exact ⟨this.1, by omega⟩
      · rw [tally_pos h]; exact ⟨rfl, Nat.one_pos⟩
    · rw [tally_pos h]; exact ⟨rfl, Nat.one_pos⟩
  · rw [tally_pos h]; exact ⟨rfl, Nat.one_pos⟩

omit [FloatOps F] in
/-- A wait is allowed where all that is owed stands above it. -/
theorem mayWait_below (c : Dev nD) (sm : SemLoc sig) (O : CellTallies nD τ sig Unit) (n : ℕ)
    (hw : ∀ u, lv ((c : Thread nD τ), sm) u ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp]; exact mem_L rfl _)
    (fun g u hg => mem_L (hO g u hg).1 u) (fun p hp => by rw [Finset.mem_singleton.mp hp]; exact hw _) (fun g u hg => (hO g u hg).2)

omit [FloatOps F] in
theorem mayWait_bar (c : Dev nD) : (levAts L lv : sProp 𝕄) ⊢ MayWait (c : Thread nD τ) (.reg barS) () (owedL c) :=
  mayWait_below c _ _ 1 (fun _ => Nat.le_refl _) fun g u h => by have := owedL_pos h; exact ⟨this.1, by omega⟩

omit [FloatOps F] in
/-- The staging waits. -/
theorem mayWait_stage (c : Dev nD) (q : DmaSem sig) (hq : role (.dma q) = .other) (O : CellTallies nD τ sig Unit) (hO : O = owed c ∨ O = 0) :
    (levAts L lv : sProp 𝕄) ⊢ MayWait (c : Thread nD τ) (.dma q) () O := by
  rcases hO with rfl | rfl
  · exact mayWait_below c _ _ 0 (fun u => by unfold lv; rw [hq]) fun g u h => owed_pos h
  · rw [MayWait_zero]; iintro -; iempintro

end Cert.TopK

end
-- ==== Proof.Steps.lean ====
/-
# The kernel's steps, one rule each

The ghost state a device works from, and for each kind of step of the kernel's body — raise a barrier, wait on one's
own, start a transfer, wait on a transfer's semaphore, store a column — the rule by which the body's proof takes it.
-/
module

public import proofs.«01_k».proof.Proof.Sched

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The records every device has: the cells' invariants, and that all of them are at round 0 -/

def records (K : Dev nD × Fin 7 → ℕ) : sProp 𝕄 :=
  iprop((bigSep Finset.univ fun ck : Dev nD × Fin 7 => cellInv EX (sched m) (K ck) (kcell ck))
    ∗ bigSep Finset.univ fun ck : Dev nD × Fin 7 => reached EX (kcell ck) 0)

instance records_persistent (K : Dev nD × Fin 7 → ℕ) : BI.Persistent (records m K) := by unfold records; infer_instance

section
variable (K : Dev nD × Fin 7 → ℕ)

theorem record_at (ck : Dev nD × Fin 7) :
    records m K ⊢ iprop(cellInv EX (sched m) (K ck) (kcell ck) ∗ reached EX (kcell ck) 0) := by
  unfold records
  exact BIClass.sep_mono (bigSep_elim (Φ := fun ck : Dev nD × Fin 7 => cellInv EX (sched m) (K ck) (kcell ck)) (Finset.mem_univ ck))
    (bigSep_elim (Φ := fun ck : Dev nD × Fin 7 => (reached EX (kcell ck) 0 : sProp 𝕄)) (Finset.mem_univ ck))

theorem record_bar (c : Dev nD) : records m K ⊢ iprop(cellInv EX (sched m) (K (c, 0)) (barCell c) ∗ reached EX (barCell c) 0) :=
  record_at m K (c, 0)
theorem record_snd (j : Fin 3) (c : Dev nD) :
    records m K ⊢ iprop(cellInv EX (sched m) (K (c, sndIx j)) (sndCell j c) ∗ reached EX (sndCell j c) 0) := by
  have h := record_at m K (c, sndIx j); rwa [kcell_snd] at h
theorem record_rcv (j : Fin 3) (c : Dev nD) :
    records m K ⊢ iprop(cellInv EX (sched m) (K (c, rcvIx j)) (rcvCell j c) ∗ reached EX (rcvCell j c) 0) := by
  have h := record_at m K (c, rcvIx j); rwa [kcell_rcv] at h

/-- What a core owes, whatever it has waited for. -/
def debt (c : Dev nD) (O : CellTallies nD τ sig Unit) : sProp 𝕄 := iprop(∃ W, owes (c : Thread nD τ) O W)

/-! ## The exchange's steps -/

section Steps

/-- Raise `j`: it hands over slot `j + 1`. -/
theorem step_raise {α : Type} {Q : α → sProp 𝕄} {k : PUnit → Prog (TpuEff nD τ sig (Elt F) Λ₀ .tc) α}
    (j : Fin 3) (c n : Dev nD) (hn : n = peer j c) (a : ℕ) (ha : a = 1) (O : CellTallies nD τ sig Unit)
    (f : (cc0_scratch0 : Ref sig .tc).ty.Contents (Elt F)) :
    iprop(records m K ∗ debt c (O + owB j c) ∗ dutyTok EX (barCell (peer j c)) 0 j ∗ slotAt j.succ c fullShare f)
      ⊢ iprop((debt c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  unfold debt
  iintro ⟨#HR, ⟨%W, HO⟩, Ht, Hs⟩ Hk
  ihave HI := (record_bar m K (peer j c)) $$ HR
  icases HI with ⟨#HI, #Hr⟩
  iapply (Rounds.wp_signal 𝒱₀ EX (sched m) (c : Thread nD τ) none (dst := (peer j c : Thread nD τ)) (κ := K (peer j c, 0))
      (d := j) (by rw [duties_bar]; exact Finset.mem_univ _) (amount_bar m (peer j c) j) () O rfl) $$ [HO Ht Hs]
  · isplitr; · iexact HI
    isplitl [HO]; · iexact HO
    isplitl [Ht]; · iexact Ht
    isplitl [Hs]
    · rw [payload_bar]; unfold barPay; rw [back_peer]; iexists f; iexact Hs
    iexact Hr
  iintro HO
  iapply Hk
  iexists W; iexact HO

/-- The wait for the three raises: the slots the three transfers write come with it, and the barrier is done with. -/
theorem step_barrier {α : Type} {Q : α → sProp 𝕄} {k : PUnit → Prog (TpuEff nD τ sig (Elt F) Λ₀ .tc) α}
    (c : Dev nD) (a : ℕ) (ha : a = 3) :
    iprop(records m K ∗ levAts L lv ∗ cred (tallyAt (barCell c) () 3) ∗ debt c (owedL c) ∗ atPos EX (barCell c) 0 ∅ 0)
      ⊢ iprop(((debt c (owedL c) ∗ semVal (barCell c) 0 ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold debt
  iintro ⟨#HR, #Hlev, Hc, ⟨%W, HO⟩, Hat⟩ Hk
  ihave HI := (record_bar m K c) $$ HR
  icases HI with ⟨#HI, -⟩
  iapply (Rounds.wp_wait_rest_token 𝒱₀ EX (sched m) (c : Thread nD τ) none (κ := K (c, 0))
      (wpE_semWait_eq 𝒱₀ (c : Thread nD τ) none Set.univ) (Set.mem_univ _) () (O := owedL c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close EX (sched m) (Set.mem_univ (K (c, 0))) (fun h => h) (R := 0 + 1) (duties_later m (barCell c))) $$ [Hat] with Hz
  · isplitr; · iexact HI
    iexact Hat
  ihave Hpay := (Entails.of_eq (rest_bar m c)) $$ Hpay
  iapply Hk
  isplitl [HO]; · iexists _; iexact HO
  isplitl [Hz]; · iexact Hz
  iexact Hpay

/-- A transfer between any two buffers of this shape, each cell having the one duty. -/
theorem send_any {α : Type} {Q : α → sProp 𝕄} {k : PUnit → Prog (TpuEff nD τ sig (Elt F) Λ₀ .tc) α}
    (src dst : Memref sig .tc .vmem S256x8 .bf16) (sS sR : DmaSem sig) (c n : Dev nD) (κ κ' : ℕ) (O : CellTallies nD τ sig Unit)
    (q : PosShare TreeShare) (fs : Buf (Elt F) (src.view.loc (c : Thread nD τ))) (fd : Buf (Elt F) (dst.view.loc (n : Thread nD τ))) (W : Waits sig Unit)
    {hsc : (dst : Memref sig (Dev.tc n : Thread nD τ).2.kind .vmem S256x8 .bf16).view.ref.isScScratch = false}
    {hsrc : src.view.WordExact} {hdst : dst.view.WordExact}
    {hsem : DmaTarget.Typed .vmem (.dma sR) (.remote (Dev.tc n : Thread nD τ) dst (.dma sS) hsc)}
    (hS : (0 : Fin 3) ∈ (sched (F := F) m).duties ((c : Thread nD τ), .dma sS) 0) (hR : (0 : Fin 3) ∈ (sched (F := F) m).duties ((n : Thread nD τ), .dma sR) 0)
    (hN : dst.view.amount (.dma sR) = N) (hkS : (sched (F := F) m).amount ((c : Thread nD τ), .dma sS) 0 0 = N)
    (hkR : (sched (F := F) m).amount ((n : Thread nD τ), .dma sR) 0 0 = N)
    (hpS : (src.view.loc (c : Thread nD τ) ↦[src.view.set]{q} fs) ⊢ (sched m).payload ((c : Thread nD τ), .dma sS) 0 0)
    (hpR : (dst.view.loc (n : Thread nD τ) ↦[dst.view.set]{fullShare} (dst.view.write (Elt F) fd (src.view.read (Elt F) fs) Finset.univ))
      ⊢ (sched m).payload ((n : Thread nD τ), .dma sR) 0 0) :
    iprop(cellInv EX (sched m) κ ((c : Thread nD τ), .dma sS) ∗ cellInv EX (sched m) κ' ((n : Thread nD τ), .dma sR)
        ∗ (src.view.loc (c : Thread nD τ) ↦[src.view.set]{q} fs) ∗ (dst.view.loc (n : Thread nD τ) ↦[dst.view.set]{fullShare} fd)
        ∗ owes (c : Thread nD τ) (O + tallyAt ((n : Thread nD τ), .dma sR) () N) W
        ∗ dutyTok EX ((c : Thread nD τ), .dma sS) 0 (0 : Fin 3) ∗ reached EX ((c : Thread nD τ), .dma sS) 0
        ∗ dutyTok EX ((n : Thread nD τ), .dma sR) 0 (0 : Fin 3) ∗ reached EX ((n : Thread nD τ), .dma sR) 0)
      ⊢ iprop(((cred (tallyAt ((c : Thread nD τ), .dma sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) :=
  Rounds.wp_send_pointsTo 𝒱₀ EX (sched m) (c : Thread nD τ) none (κ₁ := κ) (κ₂ := κ')
    (r₁ := 0) (r₂ := 0) (d₁ := 0) (d₂ := 0) (fd := fd) hS hR () () N hN hkS hkR O rfl (W := W) hpS hpR

/-- The landing of transfer `j` pays its cell's duty. -/
theorem landing_pays (j : Fin 3) (c : Dev nD) (f : (cc0_scratch0 : Ref sig .tc).ty.Contents (Elt F)) :
    ((slotM (dstSlot j)).view.loc (peer j c : Thread nD τ) ↦[(slotM (dstSlot j)).view.set]{fullShare}
      ((slotM (dstSlot j)).view.write (Elt F) f ((slotM 0).view.read (Elt F) (gath m c)) Finset.univ) : sProp 𝕄)
      ⊢ (sched m).payload (rcvCell j (peer j c)) 0 0 := by
  rw [payload_rcv]; unfold rcvPay slotAt
  exact Entails.of_eq (pointsTo_congr fun i hi => landed_gath m j c f i hi)

/-- Transfer `j` by the rounds' rule, the device it addresses substituted. -/
theorem send_raw {α : Type} {Q : α → sProp 𝕄} {k : PUnit → Prog (TpuEff nD τ sig (Elt F) Λ₀ .tc) α}
    (j : Fin 3) (c n : Dev nD) (hn : n = peer j c) (O : CellTallies nD τ sig Unit)
    {hsc : (slotM (dstSlot j) : Memref sig (Dev.tc n : Thread nD τ).2.kind .vmem S256x8 .bf16).view.ref.isScScratch = false}
    {hsrc : (slotM 0 : Memref sig .tc .vmem S256x8 .bf16).view.WordExact} {hdst : (slotM (dstSlot j) : Memref sig .tc .vmem S256x8 .bf16).view.WordExact}
    {hsem : DmaTarget.Typed .vmem (.dma (rcvS j)) (.remote (Dev.tc n : Thread nD τ) (slotM (dstSlot j) : Memref sig .tc .vmem S256x8 .bf16) (.dma (sndS j)) hsc)}
    (f : (cc0_scratch0 : Ref sig .tc).ty.Contents (Elt F)) (W : Waits sig Unit) :
    iprop(cellInv EX (sched m) (K (c, sndIx j)) (sndCell j c) ∗ cellInv EX (sched m) (K (peer j c, rcvIx j)) (rcvCell j (peer j c))
        ∗ slotAt 0 c (lent j) (gath m c) ∗ slotAt (dstSlot j) (peer j c) fullShare f
        ∗ owes (c : Thread nD τ) (O + owL j c) W
        ∗ dutyTok EX (sndCell j c) 0 0 ∗ reached EX (sndCell j c) 0
        ∗ dutyTok EX (rcvCell j (peer j c)) 0 0 ∗ reached EX (rcvCell j (peer j c)) 0)
      ⊢ iprop(((cred (tallyAt (sndCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (dstSlot j)) (.dma (sndS j)) hsc) (.dma (rcvS j)) hsrc hdst hsem) k) Q) := by
  subst hn
  exact send_any m (slotM 0) (slotM (dstSlot j)) (sndS j) (rcvS j) c (peer j c) (K (c, sndIx j)) (K (peer j c, rcvIx j)) O
    (lent j) (gath m c) f W (by rw [duties_snd]; exact Finset.mem_singleton_self _) (by rw [duties_rcv]; exact Finset.mem_singleton_self _)
    (N_slot (dstSlot j)) (amount_snd m j c 0) (amount_rcv m j (peer j c) 0)
    (by rw [payload_snd]; exact BI.Entails.refl _) (landing_pays m j c f)

/-- Transfer `j`, reading its lent share of slot 0 and writing the slot that raise `rev j` brought. -/
theorem step_transfer {α : Type} {Q : α → sProp 𝕄} {k : PUnit → Prog (TpuEff nD τ sig (Elt F) Λ₀ .tc) α}
    (j : Fin 3) (c n : Dev nD) (hn : n = peer j c) (O : CellTallies nD τ sig Unit)
    {hsc : (slotM (dstSlot j) : Memref sig (Dev.tc n : Thread nD τ).2.kind .vmem S256x8 .bf16).view.ref.isScScratch = false}
    {hsrc : (slotM 0 : Memref sig .tc .vmem S256x8 .bf16).view.WordExact} {hdst : (slotM (dstSlot j) : Memref sig .tc .vmem S256x8 .bf16).view.WordExact}
    {hsem : DmaTarget.Typed .vmem (.dma (rcvS j)) (.remote (Dev.tc n : Thread nD τ) (slotM (dstSlot j) : Memref sig .tc .vmem S256x8 .bf16) (.dma (sndS j)) hsc)} :
    iprop(records m K ∗ slotAt 0 c (lent j) (gath m c) ∗ barPay j.rev c ∗ debt c (O + owL j c)
        ∗ dutyTok EX (sndCell j c) 0 0 ∗ dutyTok EX (rcvCell j (peer j c)) 0 0)
      ⊢ iprop(((cred (tallyAt (sndCell j c) () N) ∗ debt c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (dstSlot j)) (.dma (sndS j)) hsc) (.dma (rcvS j)) hsrc hdst hsem) k) Q) := by
  unfold debt barPay
  rw [show back j.rev c = peer j c by rw [back, peer, Fin.rev_rev], show j.rev.succ = dstSlot j from rfl]
  iintro ⟨#HR, Hs, ⟨%f, Hd⟩, ⟨%W, HO⟩, HtS, HtR⟩ Hk
  ihave HIS := (record_snd m K j c) $$ HR
  icases HIS with ⟨#HIS, #HrS⟩
  ihave HIR := (record_rcv m K j (peer j c)) $$ HR
  icases HIR with ⟨#HIR, #HrR⟩
  iapply (send_raw m K j c n hn O f W) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

section Waits
variable {src dst : Memref sig .tc .vmem S256x8 .bf16} {hs : src.view.WordExact} {hd : dst.view.WordExact}

/-- The wait for landing `j`: the slot it filled. -/
theorem step_landed {α : Type} {Q : α → sProp 𝕄} {k : PUnit → Prog (TpuEff nD τ sig (Elt F) Λ₀ .tc) α}
    (j : Fin 3) (c : Dev nD) (hN : dst.view.dmaCredit = N) :
    iprop(records m K ∗ cred (tallyAt (rcvCell j c) () N) ∗ debt c 0 ∗ atPos EX (rcvCell j c) 0 ∅ 0)
      ⊢ iprop(((debt c 0 ∗ semVal (rcvCell j c) 0 ∗ slotAt (dstSlot j) c fullShare (gath m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src dst hs hd) k) Q) := by
  unfold debt
  iintro ⟨#HR, Hc, ⟨%W, HO⟩, Hat⟩ Hk
  ihave HI := (record_rcv m K j c) $$ HR
  icases HI with ⟨#HI, -⟩
  iapply (Rounds.wp_wait_rest_token 𝒱₀ EX (sched m) (c : Thread nD τ) none (κ := K (c, rcvIx j))
      (wpE_waitDma2_eq 𝒱₀ (c : Thread nD τ) none Set.univ) (Set.mem_univ _) () (O := 0) (W := W) (R := 0) (m := 0) (T := ∅)
      (by rw [Nat.zero_add, expect_rcv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close EX (sched m) (Set.mem_univ (K (c, rcvIx j))) (fun h => h) (R := 0 + 1) (duties_later m (rcvCell j c))) $$ [Hat] with Hz
  · isplitr; · iexact HI
    iexact Hat
  ihave Hpay := (Entails.of_eq (rest_rcv m j c)) $$ Hpay
  iapply Hk
  isplitl [HO]; · iexists _; iexact HO
  isplitl [Hz]; · iexact Hz
  unfold rcvPay; iexact Hpay

/-- The wait for transfer `j`'s end: the share it read. -/
theorem step_sent {α : Type} {Q : α → sProp 𝕄} {k : PUnit → Prog (TpuEff nD τ sig (Elt F) Λ₀ .tc) α}
    (j : Fin 3) (c : Dev nD) (hN : dst.view.dmaCredit = N) :
    iprop(records m K ∗ cred (tallyAt (sndCell j c) () N) ∗ debt c 0 ∗ atPos EX (sndCell j c) 0 ∅ 0)
      ⊢ iprop(((debt c 0 ∗ semVal (sndCell j c) 0 ∗ slotAt 0 c (lent j) (gath m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src dst hs hd) k) Q) := by
  unfold debt
  iintro ⟨#HR, Hc, ⟨%W, HO⟩, Hat⟩ Hk
  ihave HI := (record_snd m K j c) $$ HR
  icases HI with ⟨#HI, -⟩
  iapply (Rounds.wp_wait_rest_token 𝒱₀ EX (sched m) (c : Thread nD τ) none (κ := K (c, sndIx j))
      (wpE_waitDma2_eq 𝒱₀ (c : Thread nD τ) none Set.univ) (Set.mem_univ _) () (O := 0) (W := W) (R := 0) (m := 0) (T := ∅)
      (by rw [Nat.zero_add, expect_snd, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close EX (sched m) (Set.mem_univ (K (c, sndIx j))) (fun h => h) (R := 0 + 1) (duties_later m (sndCell j c))) $$ [Hat] with Hz
  · isplitr; · iexact HI
    iexact Hat
  ihave Hpay := (Entails.of_eq (rest_snd m j c)) $$ Hpay
  iapply Hk
  isplitl [HO]; · iexists _; iexact HO
  isplitl [Hz]; · iexact Hz
  unfold sndPay; iexact Hpay

end Waits
end Steps
end

end Cert.TopK

end
-- ==== Proof.Columns.lean ====
/-
# The columns the kernel stores

Each store overwrites one column: of slot 0 of the gather buffer, or of the result. The rule of one such store, and
what eight of them make of a buffer.
-/
module

public import proofs.«01_k».proof.Proof.Steps

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The columns stored -/

/-- Column `t` of slot 0. -/
abbrev colRect (t : ℕ) (ht : ∀ a, (![0, 0, t] : Fin 3 → Nat) a + S1x256x1.size a ≤ S4x256x8.size a) : Rect S4x256x8 :=
  Rect.unit (s := S4x256x8) ![0, 0, t] S1x256x1.size ht
/-- Column `t` of the result. -/
abbrev outRect (t : ℕ) (ht : ∀ a, (![0, t] : Fin 2 → Nat) a + S256x1.size a ≤ S256x8.size a) : Rect S256x8 :=
  Rect.unit (s := S256x8) ![0, t] S256x1.size ht

/-- The scratch buffer with column `t` of slot 0 overwritten by `w`. -/
def putCol (t : ℕ) (w : FVec F S1x256x1 .bf16) (f : (cc0_scratch0 : Ref sig .tc).ty.Contents (Elt F)) :
    (cc0_scratch0 : Ref sig .tc).ty.Contents (Elt F) :=
  fun i : S4x256x8.Idx => if (i 0).val = 0 ∧ (i 2).val = t then w (at1 (i 1)) else f i

/-- The result buffer with column `t` overwritten by `w`. -/
def putOut (t : ℕ) (w : FVec F S256x1 .bf16) (f : (cc0_stg1_0 : Ref sig .tc).ty.Contents (Elt F)) :
    (cc0_stg1_0 : Ref sig .tc).ty.Contents (Elt F) :=
  fun i : S256x8.Idx => if (i 1).val = t then w (Shape.pair (i 0) (0 : Fin 1)) else f i

theorem mem_colRect (t : ℕ) (ht : ∀ a, (![0, 0, t] : Fin 3 → Nat) a + S1x256x1.size a ≤ S4x256x8.size a) (i : S4x256x8.Idx) : Iff (i ∈ (colRect t ht).set) ((i 0).val = 0 ∧ (i 2).val = t) := by
  refine (Rect.mem_set_unit (s := S4x256x8)).trans ⟨fun h => ⟨?_, ?_⟩, fun h a => ?_⟩
  · have := h 0
    simp at this
    rw [this]
  · have := h 2
    simp at this
    omega
  · fin_cases a
    · simp [h.1]
    · exact ⟨Nat.zero_le _, by simpa using (i 1).isLt⟩
    · simp [h.2]

theorem mem_outRect (t : ℕ) (ht : ∀ a, (![0, t] : Fin 2 → Nat) a + S256x1.size a ≤ S256x8.size a) (i : S256x8.Idx) : Iff (i ∈ (outRect t ht).set) ((i 1).val = t) := by
  refine (Rect.mem_set_unit (s := S256x8)).trans ⟨fun h => ?_, fun h a => ?_⟩
  · have := h 1
    simp at this
    omega
  · fin_cases a
    · exact ⟨Nat.zero_le _, by simpa using (i 0).isLt⟩
    · simp [h]

theorem write_col (t : ℕ) (ht) (w : FVec F S1x256x1 .bf16) (f : (cc0_scratch0 : Ref sig .tc).ty.Contents (Elt F)) :
    (gM.access (colRect t ht)).write (Elt F) f w Finset.univ = putCol t w f := by
  funext i
  have i' : S4x256x8.Idx := i
  by_cases h : i ∈ (colRect t ht).set
  · have h' := (mem_colRect t ht i).mp h
    have he : i = (gM.access (colRect t ht)).emb (at1 ((i : S4x256x8.Idx) 1)) := by
      funext a; apply Fin.ext
      fin_cases a
      · show ((i : S4x256x8.Idx) 0).val = 0 + 1 * 0; rw [h'.1]
      · show ((i : S4x256x8.Idx) 1).val = 0 + 1 * ((i : S4x256x8.Idx) 1).val; omega
      · show ((i : S4x256x8.Idx) 2).val = t + 1 * 0; rw [h'.2]; omega
    conv_lhs => rw [he]
    refine (View.write_emb_of_mem _ _ (Finset.mem_univ _)).trans ?_
    unfold putCol; rw [if_pos h']; rfl
  · refine (View.write_of_not_mem (v := gM.access (colRect t ht)) f w Finset.univ ?_).trans ?_
    · exact fun hm => h (by
        have : (gM.access (colRect t ht)).set = (colRect t ht).set := View.set_slice_whole cc0_scratch0 (colRect t ht)
        exact this ▸ (View.setOn_subset_set _ _ hm))
    · unfold putCol; rw [if_neg fun h' => h ((mem_colRect t ht i).mpr h')]

theorem write_out (t : ℕ) (ht) (w : FVec F S256x1 .bf16) (f : (cc0_stg1_0 : Ref sig .tc).ty.Contents (Elt F)) :
    (oM.access (outRect t ht)).write (Elt F) f w Finset.univ = putOut t w f := by
  funext i
  by_cases h : i ∈ (outRect t ht).set
  · have h' := (mem_outRect t ht i).mp h
    have he : i = (oM.access (outRect t ht)).emb (Shape.pair ((i : S256x8.Idx) 0) (0 : Fin 1)) := by
      funext a; apply Fin.ext
      fin_cases a
      · show ((i : S256x8.Idx) 0).val = 0 + 1 * ((i : S256x8.Idx) 0).val; omega
      · show ((i : S256x8.Idx) 1).val = t + 1 * 0; rw [h']; omega
    conv_lhs => rw [he]
    refine (View.write_emb_of_mem _ _ (Finset.mem_univ _)).trans ?_
    unfold putOut; rw [if_pos h']; rfl
  · refine (View.write_of_not_mem (v := oM.access (outRect t ht)) f w Finset.univ ?_).trans ?_
    · exact fun hm => h (by
        have : (oM.access (outRect t ht)).set = (outRect t ht).set := View.set_slice_whole cc0_stg1_0 (outRect t ht)
        exact this ▸ (View.setOn_subset_set _ _ hm))
    · unfold putOut; rw [if_neg fun h' => h ((mem_outRect t ht i).mpr h')]

section Steps

/-- A column stored into slot 0, after the unused read of what it overwrites. -/
theorem step_col {α : Type} {Q : α → sProp 𝕄} {k : PUnit → Prog (TpuEff nD τ sig (Elt F) Λ₀ .tc) α}
    (c : Dev nD) (t : ℕ) (ht) (w : FVec F S1x256x1 .bf16) (f : (cc0_scratch0 : Ref sig .tc).ty.Contents (Elt F))
    {hl : gM.view.LoadsAt (colRect t ht).toLoadRect} {hx : (gM.access (colRect t ht)).Stores Finset.univ} {hm} :
    slotAt 0 c fullShare f
      ⊢ iprop((slotAt 0 c fullShare (putCol t w f) -∗ wp frame (wpE (defs₀ (F := F)) 𝒱₀ (c : Thread nD τ) none) Set.univ (k ⟨⟩) Q)
          -∗ wp frame (wpE (defs₀ (F := F)) 𝒱₀ (c : Thread nD τ) none) Set.univ
              (.op (.load gM (colRect t ht).toLoadRect hl) fun _ => .op (.store gM (colRect t ht) w Finset.univ hx hm) k) Q) := by
  have hsub : (colRect t ht).set ⊆ slotSet 0 := fun i hi => (mem_slot 0 i).mpr (Fin.ext ((mem_colRect t ht i).mp hi).1)
  have hset : (gM.access (colRect t ht)).set = (colRect t ht).set := View.set_slice_whole cc0_scratch0 (colRect t ht)
  unfold slotAt
  iintro Hs Hk
  iapply (wp_load_rect 𝒱₀ (c : Thread nD τ) none Set.univ (m := gM) (r := colRect t ht) (S := slotSet 0) (f := f) (by rw [hset]; exact hsub)) $$ Hs
  iintro Hs
  iapply (wp_store 𝒱₀ (c : Thread nD τ) none Set.univ (m := gM) (r := colRect t ht) (Mk := Finset.univ) (S := slotSet 0) (f := f)
    ((View.setOn_subset_set _ _).trans (by rw [hset]; exact hsub))) $$ Hs
  iintro Hs
  rw [write_col]
  iapply Hk
  iexact Hs

/-- A column stored into the result. -/
theorem step_out {α : Type} {Q : α → sProp 𝕄} {k : PUnit → Prog (TpuEff nD τ sig (Elt F) Λ₀ .tc) α}
    (c : Dev nD) (t : ℕ) (ht) (w : FVec F S256x1 .bf16) (f : (cc0_stg1_0 : Ref sig .tc).ty.Contents (Elt F))
    {hl : oM.view.LoadsAt (outRect t ht).toLoadRect} {hx : (oM.access (outRect t ht)).Stores Finset.univ} {hm} :
    (((c : Thread nD τ).loc cc0_stg1_0) ↦{fullShare} f : sProp 𝕄)
      ⊢ iprop(((((c : Thread nD τ).loc cc0_stg1_0) ↦{fullShare} (putOut t w f)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (outRect t ht).toLoadRect hl) fun _ => .op (.store oM (outRect t ht) w Finset.univ hx hm) k) Q) := by
  iintro Hs Hk
  iapply (wp_load_rect 𝒱₀ (c : Thread nD τ) none Set.univ (m := oM) (r := outRect t ht) (S := Finset.univ) (f := f) (Finset.subset_univ _)) $$ Hs
  iintro Hs
  iapply (wp_store 𝒱₀ (c : Thread nD τ) none Set.univ (m := oM) (r := outRect t ht) (Mk := Finset.univ) (S := Finset.univ) (f := f)
    (Finset.subset_univ _)) $$ Hs
  iintro Hs
  rw [write_out]
  iapply Hk
  iexact Hs

/-- Slot `j` read whole, at any share. -/
theorem step_slot {α : Type} {Q : α → sProp 𝕄}
    (c : Dev nD) (s : Fin 4) (q : PosShare TreeShare) (f : (cc0_scratch0 : Ref sig .tc).ty.Contents (Elt F))
    {hl : gM.view.LoadsAt (slotRect s).toLoadRect} {k : ((slotRect s).toLoadRect.shape.Idx → Elt F .bf16) → Prog (TpuEff nD τ sig (Elt F) Λ₀ .tc) α} :
    slotAt s c q f
      ⊢ iprop((slotAt s c q f -∗ wp frame (wpE (defs₀ (F := F)) 𝒱₀ (c : Thread nD τ) none) Set.univ (k (gM.view.readAt (Elt F) (slotRect s).toLoadRect f)) Q)
          -∗ wp frame (wpE (defs₀ (F := F)) 𝒱₀ (c : Thread nD τ) none) Set.univ (.op (.load gM (slotRect s).toLoadRect hl) k) Q) := by
  unfold slotAt
  iintro Hs Hk
  iapply (wp_load_rect 𝒱₀ (c : Thread nD τ) none Set.univ (m := gM) (r := slotRect s) (S := slotSet s) (f := f)
    (by rw [slot_set]; exact (View.set_slice_whole cc0_scratch0 (slotRect s)).subset)) $$ Hs
  iintro Hs
  iapply Hk
  iexact Hs

end Steps

/-! ## What the stores add up to -/

/-- The eight columns, stored over anything, are device `c`'s part of the gathered contents. -/
theorem cols_gath (c : Dev nD) (f : (cc0_scratch0 : Ref sig .tc).ty.Contents (Elt F)) (i : S4x256x8.Idx) (hi : i ∈ slotSet 0) :
    putCol 7 (candCol (xstg m c) 7) (putCol 6 (candCol (xstg m c) 6) (putCol 5 (candCol (xstg m c) 5) (putCol 4 (candCol (xstg m c) 4)
      (putCol 3 (candCol (xstg m c) 3) (putCol 2 (candCol (xstg m c) 2) (putCol 1 (candCol (xstg m c) 1) (putCol 0 (candCol (xstg m c) 0) f))))))) i
      = gath m c i := by
  have h0 := (mem_slot 0 i).mp hi
  have hv : (i 0).val = 0 := by rw [h0]; rfl
  unfold putCol gath
  dsimp only
  rw [hv, h0, ahead_zero]
  have h8 : (i 2).val < 8 := (i 2).isLt
  generalize (i 2).val = t at h8 ⊢
  match t, h8 with
  | 0, _ => simp
  | 1, _ => simp
  | 2, _ => simp
  | 3, _ => simp
  | 4, _ => simp
  | 5, _ => simp
  | 6, _ => simp
  | 7, _ => simp

/-- What device `c` reads of slot `s` in the end. -/
def slotRead (c : Dev nD) (s : Fin 4) : Vec F S1x256x8 .bf16 := gM.view.readAt (Elt F) (slotRect s).toLoadRect (gath m c)

/-- The four devices' candidates side by side, as device `c` sees them. -/
def pool (c : Dev nD) : FVec F S256x32 .bf16 := z327 (slotRead m c 0) (slotRead m c 1) (slotRead m c 2) (slotRead m c 3)

/-- The result on device `c`. -/
def outBuf (c : Dev nD) : (cc0_stg1_0 : Ref sig .tc).ty.Contents (Elt F) :=
  fun i : S256x8.Idx => outCol (F := F) (pool m c) (i 1).val (Shape.pair (i 0) (0 : Fin 1))

theorem cols_out (c : Dev nD) (f : (cc0_stg1_0 : Ref sig .tc).ty.Contents (Elt F)) :
    putOut 7 (outCol (pool m c) 7) (putOut 6 (outCol (pool m c) 6) (putOut 5 (outCol (pool m c) 5) (putOut 4 (outCol (pool m c) 4)
      (putOut 3 (outCol (pool m c) 3) (putOut 2 (outCol (pool m c) 2) (putOut 1 (outCol (pool m c) 1) (putOut 0 (outCol (pool m c) 0) f)))))))
      = outBuf m c := by
  funext (i : S256x8.Idx)
  unfold putOut outBuf
  dsimp only
  have h8 : (i 1).val < 8 := (i 1).isLt
  generalize (i 1).val = t at h8 ⊢
  match t, h8 with
  | 0, _ => simp
  | 1, _ => simp
  | 2, _ => simp
  | 3, _ => simp
  | 4, _ => simp
  | 5, _ => simp
  | 6, _ => simp
  | 7, _ => simp

end Cert.TopK

end
-- ==== Proof.Body.lean ====
/-
# The kernel's body

The body of the kernel on one device, run step by step from what the launch gives that device to the gather buffer
filled, the result written and every semaphore back at zero.
-/
module

public import proofs.«01_k».proof.Proof.Columns

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- Device `c`'s own share of the ghost state: its positions in its seven cells, and the tokens of the duties it pays. -/
def linear (c : Dev nD) : sProp 𝕄 :=
  iprop(atPos EX (barCell c) 0 ∅ 0
    ∗ (bigSep Finset.univ fun j : Fin 3 => atPos EX (sndCell j c) 0 ∅ 0)
    ∗ (bigSep Finset.univ fun j : Fin 3 => atPos EX (rcvCell j c) 0 ∅ 0)
    ∗ (bigSep Finset.univ fun j : Fin 3 => dutyTok EX (barCell (peer j c)) 0 j)
    ∗ (bigSep Finset.univ fun j : Fin 3 => dutyTok EX (rcvCell j (peer j c)) 0 0)
    ∗ (bigSep Finset.univ fun j : Fin 3 => dutyTok EX (sndCell j c) 0 0))

/-- The credit for its waits the launch gives it: three raises, three landings. -/
def credits (c : Dev nD) : sProp 𝕄 :=
  iprop(cred (tallyAt (barCell c) () 3) ∗ bigSep Finset.univ fun j : Fin 3 => cred (tallyAt (rcvCell j c) () N))

/-- The gather buffer on device `c`. -/
def scr (c : Dev nD) (f : (cc0_scratch0 : Ref sig .tc).ty.Contents (Elt F)) : sProp 𝕄 :=
  (((c : Thread nD τ).loc cc0_scratch0) ↦{fullShare} f)

def start (c : Dev nD) : sProp 𝕄 := iprop((∃ K, records m K ∗ linear c) ∗ credits c ∗ levAts L lv)
def Φ₀ (c : Dev nD) : sProp 𝕄 := iprop(start m c ∗ ∃ f, scr c f)
/-- The gather buffer filled, and the seven semaphores at zero. -/
def Φ₁ (c : Dev nD) : sProp 𝕄 :=
  iprop(scr c (gath m c) ∗ semVal (barCell c) 0
    ∗ (bigSep Finset.univ fun j : Fin 3 => semVal (sndCell j c) 0) ∗ (bigSep Finset.univ fun j : Fin 3 => semVal (rcvCell j c) 0))

/-- The one point of the kernel's grid: what its windows hold before and after, and what it owes. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outBuf m c
  Φ t := match t with
    | ⟨0, _⟩ => Φ₀ m c
    | ⟨_ + 1, _⟩ => Φ₁ m c
  q _ := fullShare
  owed t := match t with
    | ⟨0, _⟩ => owed c
    | ⟨_ + 1, _⟩ => 0

theorem one_point : cfg0.N = 1 := by decide
def t₀ : Fin cfg0.N := ⟨0, by rw [one_point]; decide⟩
theorem at_t₀ (t : Fin cfg0.N) : t = t₀ := by
  obtain ⟨t, ht⟩ := t; have := one_point; exact Fin.ext (by simp only [t₀]; omega)

theorem fetch_x (t : Fin cfg0.N) : (cfg0.win (0 : Fin 2)).fetch t = true := by rw [at_t₀ t]; rfl

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((records m K ∗ linear c ∗ credits c ∗ levAts L lv ∗ ∃ f, scr c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outBuf m c))

omit [FloatOps F] in
theorem zero_off : (![0, 0] : Fin 2 → Nat) = fun _ => 0 := funext fun a => by fin_cases a <;> rfl

omit [FloatOps F] in
/-- The block read whole. -/
theorem read_block (f : (cc0_stg0_0 : Ref sig .tc).ty.Contents (Elt F)) :
    (xM : Memref sig .tc .vmem S256x1024 .bf16).view.readAt (Elt F)
      (Rect.unit (s := S256x1024) ![0, 0] S256x1024.size inb_S256x1024_S256x1024_0_0).toLoadRect f = f :=
  Memref.readAt_unit_zero (Elt F) cc0_stg0_0 zero_off _ f

theorem pool_eq (c : Dev nD) : z327 (F := F) (gM.view.readAt (Elt F) (slotRect 0).toLoadRect (gath m c)) (gM.view.readAt (Elt F) (slotRect 1).toLoadRect (gath m c))
    (gM.view.readAt (Elt F) (slotRect 2).toLoadRect (gath m c)) (gM.view.readAt (Elt F) (slotRect 3).toLoadRect (gath m c)) = pool m c := rfl

theorem stored_gath (c : Dev nD) (f : (cc0_scratch0 : Ref sig .tc).ty.Contents (Elt F)) :
    slotAt 0 c fullShare (putCol 7 (candCol (xstg m c) 7) (putCol 6 (candCol (xstg m c) 6) (putCol 5 (candCol (xstg m c) 5) (putCol 4 (candCol (xstg m c) 4)
      (putCol 3 (candCol (xstg m c) 3) (putCol 2 (candCol (xstg m c) 2) (putCol 1 (candCol (xstg m c) 1) (putCol 0 (candCol (xstg m c) 0) f))))))))
      ⊢ iprop((slotAt 0 c (lent 0) (gath m c) ∗ slotAt 0 c (lent 1) (gath m c)) ∗ slotAt 0 c (lent 2) (gath m c) ∗ slotAt 0 c kept (gath m c)) := by
  refine .trans (Entails.of_eq ?_) (slot_shares c (gath m c)).mp
  unfold slotAt
  exact pointsTo_congr fun i hi => cols_gath m c f i hi

omit [FloatOps F] in
/-- A slot lies in whole words. -/
theorem slot_words (k : Fin 4) : (slotM k : Memref sig .tc .vmem S256x8 .bf16).view.WordExact := by
  fin_cases k
  · exact ((Memref.isWhole_whole cc0_scratch0).wordExact_slice rfl _ wordsbf16_S4x256x8_S1x256x8_0_0_0).reshape _ _
  · exact ((Memref.isWhole_whole cc0_scratch0).wordExact_slice rfl _ wordsbf16_S4x256x8_S1x256x8_1_0_0).reshape _ _
  · exact ((Memref.isWhole_whole cc0_scratch0).wordExact_slice rfl _ wordsbf16_S4x256x8_S1x256x8_2_0_0).reshape _ _
  · exact ((Memref.isWhole_whole cc0_scratch0).wordExact_slice rfl _ wordsbf16_S4x256x8_S1x256x8_3_0_0).reshape _ _

set_option maxHeartbeats 1600000 in
set_option maxRecDepth 4000 in
/-- The body run from its start, one rule per effect in program order. -/
theorem sound_body (K : Dev nD × Fin 7 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  unfold bodyPre linear credits
  simp only [bigSep_fin3]
  iintro ⟨⟨⟨#HR, ⟨HaB, ⟨HaS0, HaS1, HaS2⟩, ⟨HaR0, HaR1, HaR2⟩, ⟨HtB0, HtB1, HtB2⟩, ⟨HtR0, HtR1, HtR2⟩, HtS0, HtS1, HtS2⟩, ⟨HcB, HcR0, HcR1, HcR2⟩, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_x t₀)]; rfl
  subst hx
  unfold Dat.owesAt Pipeline.owesWithin
  icases Ho with ⟨%W, %hW, HO⟩
  rw [show (dats m 0 c).owed t₀.castSucc = owed c from rfl]
  ihave HO := (show owes (c : Thread nD τ) (owed c) W ⊢ (debt c (owedL c + owB 2 c + owB 1 c + owB 0 c) : sProp 𝕄) from by
    unfold debt owed; iintro H; iexists W; iexact H) $$ HO
  unfold scr
  ihave Hscr := (Entails.of_eq (scratch_slots c f0)) $$ Hscr
  icases Hscr with ⟨H0, H1, H2, H3⟩
  iapply (step_raise m K 0 c _ (sig_dev0 c) _ (by decide) (owedL c + owB 2 c + owB 1 c) f0) $$ [HO HtB0 H1]
  · isplitr; · iexact HR
    isplitl [HO]; · iexact HO
    isplitl [HtB0]; · iexact HtB0
    iexact H1
  iintro HO
  iapply (step_raise m K 1 c _ (sig_dev1 c) _ (by decide) (owedL c + owB 2 c) f0) $$ [HO HtB1 H2]
  · isplitr; · iexact HR
    isplitl [HO]; · iexact HO
    isplitl [HtB1]; · iexact HtB1
    iexact H2
  iintro HO
  iapply (step_raise m K 2 c _ (sig_dev2 c) _ (by decide) (owedL c) f0) $$ [HO HtB2 H3]
  · isplitr; · iexact HR
    isplitl [HO]; · iexact HO
    isplitl [HtB2]; · iexact HtB2
    iexact H3
  iintro HO
  iapply (wp_load 𝒱₀ (c : Thread nD τ) none Set.univ (m := xM) (Finset.subset_univ _)) $$ Hx
  iintro Hx
  rw [read_block]
  iapply (step_col c 0 inb_S4x256x8_S1x256x1_0_0_0 _ _) $$ H0
  iintro H0
  iapply (step_col c 1 inb_S4x256x8_S1x256x1_0_0_1 _ _) $$ H0
  iintro H0
  iapply (step_col c 2 inb_S4x256x8_S1x256x1_0_0_2 _ _) $$ H0
  iintro H0
  iapply (step_col c 3 inb_S4x256x8_S1x256x1_0_0_3 _ _) $$ H0
  iintro H0
  iapply (step_col c 4 inb_S4x256x8_S1x256x1_0_0_4 _ _) $$ H0
  iintro H0
  iapply (step_col c 5 inb_S4x256x8_S1x256x1_0_0_5 _ _) $$ H0
  iintro H0
  iapply (step_col c 6 inb_S4x256x8_S1x256x1_0_0_6 _ _) $$ H0
  iintro H0
  iapply (step_col c 7 inb_S4x256x8_S1x256x1_0_0_7 _ _) $$ H0
  iintro H0
  rw [stored0, stored1, stored2, stored3, stored4, stored5, stored6, stored7]
  ihave H0 := (stored_gath m c _) $$ H0
  icases H0 with ⟨⟨Hl0, Hl1⟩, Hl2, Hkept⟩
  iapply (step_barrier m K c _ (by decide)) $$ [HcB HO HaB]
  · isplitr; · iexact HR
    isplitr; · iexact Hlev
    isplitl [HcB]; · iexact HcB
    isplitl [HO]; · iexact HO
    iexact HaB
  iintro ⟨HO, HzB, Hp0, Hp1, Hp2⟩
  iapply (step_transfer m K 0 c _ (dma_dev0 c) (owL 2 c + owL 1 c) (hsc := rfl) (hsrc := slot_words 0) (hdst := slot_words (dstSlot 0)) (hsem := ⟨⟨rfl, Or.inl rfl⟩, trivial⟩)) $$ [Hl0 Hp2 HO HtS0 HtR0]
  · isplitr; · iexact HR
    isplitl [Hl0]; · iexact Hl0
    isplitl [Hp2]; · iexact Hp2
    isplitl [HO]; · iexact HO
    isplitl [HtS0]; · iexact HtS0
    iexact HtR0
  iintro ⟨HcS0, HO⟩
  iapply (step_transfer m K 1 c _ (dma_dev1 c) (owL 2 c) (hsc := rfl) (hsrc := slot_words 0) (hdst := slot_words (dstSlot 1)) (hsem := ⟨⟨rfl, Or.inl rfl⟩, trivial⟩)) $$ [Hl1 Hp1 HO HtS1 HtR1]
  · isplitr; · iexact HR
    isplitl [Hl1]; · iexact Hl1
    isplitl [Hp1]; · iexact Hp1
    isplitl [HO]; · iexact HO
    isplitl [HtS1]; · iexact HtS1
    iexact HtR1
  iintro ⟨HcS1, HO⟩
  iapply (step_transfer m K 2 c _ (dma_dev2 c) (0) (hsc := rfl) (hsrc := slot_words 0) (hdst := slot_words (dstSlot 2)) (hsem := ⟨⟨rfl, Or.inl rfl⟩, trivial⟩)) $$ [Hl2 Hp0 HO HtS2 HtR2]
  · isplitr; · iexact HR
    isplitl [Hl2]; · iexact Hl2
    isplitl [Hp0]; · iexact Hp0
    isplitl [HO]; · rw [zero_add]; iexact HO
    isplitl [HtS2]; · iexact HtS2
    iexact HtR2
  iintro ⟨HcS2, HO⟩
  iapply (step_landed m K 0 c rfl (hs := slot_words 0) (hd := slot_words 3)) $$ [HcR0 HO HaR0]
  · isplitr; · iexact HR
    isplitl [HcR0]; · iexact HcR0
    isplitl [HO]; · iexact HO
    iexact HaR0
  iintro ⟨HO, HzR0, H3⟩
  iapply (step_landed m K 1 c rfl (hs := slot_words 0) (hd := slot_words 2)) $$ [HcR1 HO HaR1]
  · isplitr; · iexact HR
    isplitl [HcR1]; · iexact HcR1
    isplitl [HO]; · iexact HO
    iexact HaR1
  iintro ⟨HO, HzR1, H2⟩
  iapply (step_landed m K 2 c rfl (hs := slot_words 0) (hd := slot_words 1)) $$ [HcR2 HO HaR2]
  · isplitr; · iexact HR
    isplitl [HcR2]; · iexact HcR2
    isplitl [HO]; · iexact HO
    iexact HaR2
  iintro ⟨HO, HzR2, H1⟩
  ihave H3 := (show slotAt (dstSlot 0) c fullShare (gath m c) ⊢ (slotAt 3 c fullShare (gath m c) : sProp 𝕄) from .rfl) $$ H3
  ihave H2 := (show slotAt (dstSlot 1) c fullShare (gath m c) ⊢ (slotAt 2 c fullShare (gath m c) : sProp 𝕄) from .rfl) $$ H2
  ihave H1 := (show slotAt (dstSlot 2) c fullShare (gath m c) ⊢ (slotAt 1 c fullShare (gath m c) : sProp 𝕄) from .rfl) $$ H1
  iapply (step_slot c 0 kept (gath m c)) $$ Hkept
  iintro Hkept
  iapply (step_slot c 1 fullShare (gath m c)) $$ H1
  iintro H1
  iapply (step_slot c 2 fullShare (gath m c)) $$ H2
  iintro H2
  iapply (step_slot c 3 fullShare (gath m c)) $$ H3
  iintro H3
  iapply (step_out c 0 inb_S256x8_S256x1_0_0 _ _) $$ Hout
  iintro Hout
  iapply (step_out c 1 inb_S256x8_S256x1_0_1 _ _) $$ Hout
  iintro Hout
  iapply (step_out c 2 inb_S256x8_S256x1_0_2 _ _) $$ Hout
  iintro Hout
  iapply (step_out c 3 inb_S256x8_S256x1_0_3 _ _) $$ Hout
  iintro Hout
  iapply (step_out c 4 inb_S256x8_S256x1_0_4 _ _) $$ Hout
  iintro Hout
  iapply (step_out c 5 inb_S256x8_S256x1_0_5 _ _) $$ Hout
  iintro Hout
  iapply (step_out c 6 inb_S256x8_S256x1_0_6 _ _) $$ Hout
  iintro Hout
  iapply (step_out c 7 inb_S256x8_S256x1_0_7 _ _) $$ Hout
  iintro Hout
  rw [out0, out1, out2, out3, out4, out5, out6, out7, pool_eq, cols_out]
  iapply (step_sent m K 0 c rfl (hs := slot_words 3) (hd := slot_words 0)) $$ [HcS0 HO HaS0]
  · isplitr; · iexact HR
    isplitl [HcS0]; · iexact HcS0
    isplitl [HO]; · iexact HO
    iexact HaS0
  iintro ⟨HO, HzS0, Hl0⟩
  iapply (step_sent m K 1 c rfl (hs := slot_words 2) (hd := slot_words 0)) $$ [HcS1 HO HaS1]
  · isplitr; · iexact HR
    isplitl [HcS1]; · iexact HcS1
    isplitl [HO]; · iexact HO
    iexact HaS1
  iintro ⟨HO, HzS1, Hl1⟩
  iapply (step_sent m K 2 c rfl (hs := slot_words 1) (hd := slot_words 0)) $$ [HcS2 HO HaS2]
  · isplitr; · iexact HR
    isplitl [HcS2]; · iexact HcS2
    isplitl [HO]; · iexact HO
    iexact HaS2
  iintro ⟨HO, HzS2, Hl2⟩
  rw [wp_ret]; imodintro
  iapply Hk
  ihave H0 := (slot_shares c (gath m c)).mpr $$ [Hl0 Hl1 Hl2 Hkept]
  · isplitl [Hl0 Hl1]
    · isplitl [Hl0] <;> iassumption
    isplitl [Hl2] <;> iassumption
  unfold bodyPost Φ₁ Dat.owesAt Pipeline.owesWithin
  rw [show (dats m 0 c).owed t₀.succ = 0 from rfl]
  simp only [bigSep_fin3]
  isplitl [H0 H1 H2 H3 HzB HzR0 HzR1 HzR2 HzS0 HzS1 HzS2]
  · isplitl [H0 H1 H2 H3]
    · unfold scr
      iapply (Entails.of_eq (scratch_slots c (gath m c)).symm)
      isplitl [H0]; · iexact H0
      isplitl [H1]; · iexact H1
      isplitl [H2] <;> iassumption
    isplitl [HzB]; · iexact HzB
    isplitl [HzS0 HzS1 HzS2]
    · isplitl [HzS0]; · iexact HzS0
      isplitl [HzS1] <;> iassumption
    isplitl [HzR0]; · iexact HzR0
    isplitl [HzR1] <;> iassumption
  isplitl [HO]
  · unfold debt
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 65536 in
/-- What the library asks of the body on each core. -/
theorem body_obligation (c : Dev nD) : BodyObligation (dats (F := F) m 0 c) (defs₀ (F := F)) 𝒱₀ () Set.univ := fun t => by
  rw [at_t₀ t]
  rw [bigSep_W0, bigSep_W0]
  simp only [owns_stage]
  show iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d))) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold Φ₀ start
  iintro ⟨⟨⟨⟨%K, HR, Hlin⟩, Hcr, Hlev⟩, Hscr⟩, Ho, Hx, Hout⟩
  iapply (sound_body m K c fun _ => bodyPost m c)
  unfold bodyPre
  isplitr []
  · isplitl [HR Hlin Hcr Hlev Hscr]
    · isplitl [HR]; · iexact HR
      isplitl [Hlin]; · iexact Hlin
      isplitl [Hcr]; · iexact Hcr
      isplitl [Hlev] <;> iassumption
    isplitl [Ho]; · iexact Ho
    isplitl [Hx] <;> iassumption
  · iintro H; iexact H

end Cert.TopK

end
-- ==== Proof.Run.lean ====
/-
# The run of the kernel

The launch: the ghost state minted, dealt and exchanged between the devices, and from it the run of the whole program,
for any float values.
-/
module

public import proofs.«01_k».proof.Proof.Body
public import Idealize.ShloMosaic.Lib.Pipeline.CollectiveSegs
public import Idealize.ShloMosaic.Lib.Pipeline.ValueKit

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Pipeline in
theorem own_facts : Pipeline.OwnSemFacts cfg0.spec osem := by decide

theorem share_full (c : Dev nD) (w : Fin cfg0.W) : (dats m 0 c).share w = fullShare := by unfold Dat.share; split <;> rfl

/-! ## The cells and their tokens -/

theorem kcell_injective : Function.Injective (kcell : Dev nD × Fin 7 → GSem nD τ sig) := by
  have hs : ∀ k k' : Fin 7, csem k = csem k' → k = k' := by decide
  rintro ⟨c, k⟩ ⟨c', k'⟩ h
  have h1 : c = c' := congrArg (fun g : GSem nD τ sig => g.1.1) h
  have h2 : k = k' := hs k k' (congrArg Prod.snd h)
  rw [h1, h2]

def cells : Finset (GSem nD τ sig) := Finset.univ.map ⟨kcell, kcell_injective⟩

omit [FloatOps F] in
theorem sep_flat (P Q R : sProp 𝕄) : iprop((P ∗ Q) ∗ R) = iprop(P ∗ Q ∗ R) := BI.equiv_iff.mp ⟨BI.sep_assoc, BI.sep_assoc'⟩

omit [FloatOps F] in
/-- One proposition per cell of a device: its barrier's, its three send cells', its three receive cells'. -/
theorem bigSep_seven (Φ : GSem nD τ sig → sProp 𝕄) (c : Dev nD) :
    (bigSep Finset.univ fun k : Fin 7 => Φ (kcell (c, k)))
      = iprop(Φ (barCell c) ∗ (bigSep Finset.univ fun j : Fin 3 => Φ (sndCell j c)) ∗ bigSep Finset.univ fun j : Fin 3 => Φ (rcvCell j c)) := by
  rw [bigSep_univ_eq_bigSepL [0, 1, 2, 3, 4, 5, 6] (by decide) (by decide) (fun k : Fin 7 => Φ (kcell (c, k))), bigSep_fin3, bigSep_fin3]
  show iprop(Φ (barCell c) ∗ Φ (sndCell 0 c) ∗ Φ (sndCell 1 c) ∗ Φ (sndCell 2 c) ∗ Φ (rcvCell 0 c) ∗ Φ (rcvCell 1 c) ∗ Φ (rcvCell 2 c)) = _
  rw [sep_flat, sep_flat]

/-- A duty of one of a device's own cells: of its barrier, of a send cell, of a receive cell. -/
abbrev tokOf (x : Dev nD × (Fin 3 × Fin 3)) : GSem nD τ sig × ℕ × Fin 3 := match x.2.1 with
  | 0 => (barCell x.1, 0, x.2.2) | 1 => (sndCell x.2.2 x.1, 0, 0) | 2 => (rcvCell x.2.2 x.1, 0, 0)
theorem tokOf_injective : Function.Injective tokOf := by
  have hs : ∀ a a' b b' : Fin 3, ((tokOf (0, a, b)).1.2, (tokOf (0, a, b)).2.2) = ((tokOf (0, a', b')).1.2, (tokOf (0, a', b')).2.2) → a = a' ∧ b = b' := by decide
  rintro ⟨c, a, b⟩ ⟨c', a', b'⟩ h
  have h1 : c = c' := by
    have := congrArg (fun x : GSem nD τ sig × ℕ × Fin 3 => x.1.1.1) h
    fin_cases a <;> fin_cases a' <;> exact this
  subst h1
  have h2 := hs a a' b b' (by
    have := congrArg (fun x : GSem nD τ sig × ℕ × Fin 3 => (x.1.2, x.2.2)) h
    fin_cases a <;> fin_cases a' <;> exact this)
  rw [h2.1, h2.2]
def minted : Finset (GSem nD τ sig × ℕ × Fin 3) := Finset.univ.map ⟨tokOf, tokOf_injective⟩

def u₀ : UU :=
  (initOf (Pipeline.cells cfgs cellOf_inj) (Pipeline.launchToks cfgs cellOf_inj), initOf cells minted)

/-- The tokens of a device's own cells. -/
def toks (c : Dev nD) : sProp 𝕄 :=
  iprop((bigSep Finset.univ fun j : Fin 3 => dutyTok EX (barCell c) 0 j)
    ∗ (bigSep Finset.univ fun j : Fin 3 => dutyTok EX (sndCell j c) 0 0) ∗ (bigSep Finset.univ fun j : Fin 3 => dutyTok EX (rcvCell j c) 0 0))

/-- What the launch deals device `c`, -/
def G (c : Dev nD) : sProp 𝕄 :=
  iprop((bigSep Finset.univ fun k : Fin 7 => roundState EX (sched m) (kcell (c, k)) 0)
    ∗ (bigSep Finset.univ fun k : Fin 7 => iprop(atPos EX (kcell (c, k)) 0 ∅ 0 ∗ reached EX (kcell (c, k)) 0)) ∗ toks c)
/-- and what is made of it. -/
def G' (c : Dev nD) : sProp 𝕄 := iprop(∃ K, records m K ∗ linear c)

theorem fund : BI.own (EX (initOf cells minted)) ⊢ (|==> bigSep Finset.univ (G m) : sProp 𝕄) := by
  have hX (Φ : GSem nD τ sig → sProp 𝕄) : bigSep cells Φ = bigSep Finset.univ fun c : Dev nD => bigSep Finset.univ fun k : Fin 7 => Φ (kcell (c, k)) := by
    unfold cells; rw [bigSep_map, bigSep_univ_prod]; rfl
  have hT : bigSep minted (fun x => (dutyTok EX x.1 x.2.1 x.2.2 : sProp 𝕄)) = bigSep Finset.univ fun c : Dev nD => toks c := by
    unfold minted; rw [bigSep_map, bigSep_univ_prod]
    exact bigSep_congr fun c _ => by rw [bigSep_univ_prod, bigSep_fin3]; rfl
  iintro HX
  imod (Rounds.fund EX (sched m) cells minted) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem own_sems (c : Dev nD) : (Pipeline.ownSems0 (Ix := Unit) (Name := ℕ) (U := UU) (Lvl := ℕ) (Val := Elt F) (τ := τ) osem c : sProp 𝕄)
    = iprop((bigSep Finset.univ fun j : Fin 3 => semVal (sndCell j c) 0) ∗ bigSep Finset.univ fun j : Fin 3 => semVal (rcvCell j c) 0) := by
  rw [Pipeline.ownSems0_eq_of_list c osem [0, 1, 2, 3, 4, 5] (by decide) (by decide), bigSep_fin3, bigSep_fin3]
  show iprop(semVal (sndCell 0 c) 0 ∗ semVal (sndCell 1 c) 0 ∗ semVal (sndCell 2 c) 0 ∗ semVal (rcvCell 0 c) 0 ∗ semVal (rcvCell 1 c) 0 ∗ semVal (rcvCell 2 c) 0) = _
  rw [sep_flat, sep_flat]
omit [FloatOps F] in
theorem other_sems (c : Dev nD) : (unscopedSems0 c : sProp 𝕄) = semVal (barCell c) 0 := by
  unfold unscopedSems0; rw [bigSep_eq_bigSepL_of_eq [SemLoc.reg barS] (by decide) (by decide)]; rfl

/-- Each cell of a device becomes an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  rw [own_sems, other_sems]
  iintro ⟨⟨HS, HV⟩, HB, Hst, Hat, Htok⟩
  ihave Hv := (Entails.of_eq (bigSep_seven (F := F) (fun g => semVal g 0) c).symm) $$ [HS HV HB]
  · isplitl [HB]; · iexact HB
    isplitl [HS] <;> iassumption
  imod (show iprop((bigSep Finset.univ fun k : Fin 7 => semVal (kcell (c, k)) 0) ∗ bigSep Finset.univ fun k : Fin 7 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays with. -/
def pays (c : Dev nD) : sProp 𝕄 :=
  iprop((bigSep Finset.univ fun j : Fin 3 => dutyTok EX (barCell (peer j c)) 0 j)
    ∗ (bigSep Finset.univ fun j : Fin 3 => dutyTok EX (rcvCell j (peer j c)) 0 0) ∗ (bigSep Finset.univ fun j : Fin 3 => dutyTok EX (sndCell j c) 0 0))

omit [FloatOps F] in
/-- One proposition per device and way round, dealt to the devices that lie the other way. -/
theorem around (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (peer j c) j := by
  rw [← bigSep_univ_prod (fun x : Dev nD × Fin 3 => Φ x.1 x.2), ← bigSep_univ_prod (fun x : Dev nD × Fin 3 => Φ (peer x.2 x.1) x.2),
    bigSep_univ_equiv shift (fun x : Dev nD × Fin 3 => Φ x.1 x.2)]
  rfl

omit [FloatOps F] in
theorem toks_around : (bigSep Finset.univ fun c : Dev nD => (toks c : sProp 𝕄)) ⊢ bigSep Finset.univ fun c : Dev nD => pays c := by
  unfold toks pays
  rw [bigSep_sep', bigSep_sep', bigSep_sep', bigSep_sep', around (F := F) (fun c j => dutyTok EX (barCell c) 0 j),
    around (F := F) (fun c j => dutyTok EX (rcvCell j c) 0 0)]
  iintro ⟨H1, H2, H3⟩
  isplitl [H1]; · iexact H1
  isplitl [H3] <;> iassumption

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) :
    iprop(records m K ∗ (bigSep Finset.univ fun k : Fin 7 => atPos EX (kcell (c, k)) 0 ∅ 0) ∗ pays c) ⊢ G' m c := by
  rw [bigSep_seven (F := F) (fun g => atPos EX g 0 ∅ 0) c]
  unfold G' linear pays
  iintro ⟨HR, ⟨HB, HS, HV⟩, HtB, HtV, HtS⟩
  iexists K
  isplitl [HR]; · iexact HR
  isplitl [HB]; · iexact HB
  isplitl [HS]; · iexact HS
  isplitl [HV]; · iexact HV
  isplitl [HtB]; · iexact HtB
  isplitl [HtV] <;> iassumption

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv EX (sched m) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄))]
  iintro ⟨HI, ⟨Hat, #HR⟩, Htok⟩
  ihave HK := (BI.bigSep_exists_pi Finset.univ (fun (ck : Dev nD × Fin 7) (κ : ℕ) => (cellInv EX (sched m) κ (kcell ck) : sProp 𝕄))) $$ HI
  icases HK with ⟨%K, #HI⟩
  ihave Htk := (toks_around (F := F)) $$ Htok
  iapply (bigSep_beside (R := records m K) fun c _ => ghost_intro m K c)
  isplitr
  · unfold records; isplitl; · iexact HI
    iexact HR
  · iapply (Entails.of_eq (bigSep_sep' Finset.univ (fun c : Dev nD => bigSep Finset.univ fun k : Fin 7 => (atPos EX (kcell (c, k)) 0 ∅ 0 : sProp 𝕄)) pays).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch gives -/

/-- One debt per device, each to another device's cell of a kind: each such cell is owed once. -/
theorem dealt (g : Dev nD → GSem nD τ sig) (hg : Function.Injective g) (j : Fin 3) (k : ℕ) (c : Dev nD) :
    ∑ d, (tallyAt (g (peer j d)) () k : CellTallies nD τ sig Unit) (g c) () = k := by
  rw [Finset.sum_eq_single (back j c)]
  · rw [peer_back, tallyAt_apply, if_pos ⟨rfl, rfl⟩]
  · intro d _ hd
    rw [tallyAt_apply, if_neg]
    rintro ⟨h, -⟩
    exact hd (by rw [hg h, back_peer])
  · exact fun h => absurd (Finset.mem_univ _) h

theorem undealt (g : Dev nD → GSem nD τ sig) (x : GSem nD τ sig) (k : ℕ) (h : ∀ d, x ≠ g d) (j : Fin 3) :
    ∑ d, (tallyAt (g (peer j d)) () k : CellTallies nD τ sig Unit) x () = 0 :=
  Finset.sum_eq_zero fun d _ => by rw [tallyAt_ne_cell (h _), Finsupp.zero_apply]

theorem at_device (s : SemLoc sig) : Function.Injective fun c : Dev nD => (((c : Thread nD τ), s) : GSem nD τ sig) :=
  fun _ _ h => congrArg (fun g : GSem nD τ sig => g.1.1) h

/-- What is owed to a cell, of each of the six kinds. -/
theorem owed_sum (x : GSem nD τ sig) : ∑ d, owed d x ()
    = ∑ d, owL 2 d x () + ∑ d, owL 1 d x () + ∑ d, owL 0 d x () + ∑ d, owB 2 d x () + ∑ d, owB 1 d x () + ∑ d, owB 0 d x () := by
  simp only [← Finset.sum_add_distrib]
  refine Finset.sum_congr rfl fun d _ => ?_
  unfold owed owedL
  simp only [Pi.add_apply, Finsupp.add_apply]

theorem rcv_ne_bar (j : Fin 3) (c d : Dev nD) : barCell c ≠ rcvCell j d := fun h => by cases congrArg Prod.snd h
theorem rcv_ne (i j : Fin 3) (h : i ≠ j) (c d : Dev nD) : rcvCell j c ≠ rcvCell i d := fun e => by
  have := congrArg Prod.snd e
  exact h (rcvS_inj i j (SemLoc.dma.inj this).symm)

theorem owed_bar (c : Dev nD) : ∑ d, owed d (barCell c) () = 3 := by
  rw [owed_sum, undealt (rcvCell 2) _ N fun d => rcv_ne_bar 2 c d, undealt (rcvCell 1) _ N fun d => rcv_ne_bar 1 c d,
    undealt (rcvCell 0) _ N fun d => rcv_ne_bar 0 c d, dealt barCell (at_device _), dealt barCell (at_device _), dealt barCell (at_device _)]
theorem owed_rcv (j : Fin 3) (c : Dev nD) : ∑ d, owed d (rcvCell j c) () = N := by
  have hb : ∀ i, ∑ d, owB i d (rcvCell j c) () = 0 := fun i => undealt barCell _ 1 (fun d => (rcv_ne_bar j d c).symm) i
  have hr : ∀ i, i ≠ j → ∑ d, owL i d (rcvCell j c) () = 0 := fun i h => undealt (rcvCell i) _ N (fun d => rcv_ne i j h c d) i
  have hj : ∑ d, owL j d (rcvCell j c) () = N := dealt (rcvCell j) (at_device _) j N c
  rw [owed_sum, hb, hb, hb]
  fin_cases j
  · rw [hr 2 (by decide), hr 1 (by decide)]; simpa using hj
  · rw [hr 2 (by decide), hr 0 (by decide)]; simpa using hj
  · rw [hr 1 (by decide), hr 0 (by decide)]; simpa using hj

theorem launch_at (x : GSem nD τ sig) (k : ℕ) (hx : x.1.2 = .tc) (h : ∑ d, owed d x () = k) :
    tallyOn x (launchCredit (Pipeline.owing owed) 0 x) = (tallyAt x () k : CellTallies nD τ sig Unit) := by
  unfold tallyAt; refine congrArg _ (Finsupp.ext fun u => ?_); cases u
  rw [Finsupp.single_eq_same, ← h]
  exact Pipeline.launchCredit_owing ..

omit [FloatOps F] in
theorem creds (c : Dev nD) : (Pipeline.launchCred owed c : sProp 𝕄) ⊢ credits c := by
  have hd : ∀ i j : Fin 3, i ≠ j → (SemLoc.dma (rcvS i) : SemLoc sig) ≠ .dma (rcvS j) := fun i j h e => h (rcvS_inj i j (SemLoc.dma.inj e))
  unfold Pipeline.launchCred credits
  rw [bigSep_fin3, bigSep_univ_at _ (SemLoc.reg barS), launch_at (barCell c) 3 rfl (owed_bar c)]
  refine sep_mono_right ?_
  have hm : ∀ j, SemLoc.dma (rcvS j) ∈ (Finset.univ : Finset (SemLoc sig)).erase (.reg barS) := fun j => Finset.mem_erase.mpr ⟨fun h => (by cases h), Finset.mem_univ _⟩
  rw [bigSep_erase (hm 0), bigSep_erase (Finset.mem_erase.mpr ⟨hd 1 0 (by decide), hm 1⟩), launch_at (rcvCell 0 c) N rfl (owed_rcv 0 c),
    launch_at (rcvCell 1 c) N rfl (owed_rcv 1 c)]
  refine sep_mono_right (sep_mono_right ?_)
  rw [← launch_at (rcvCell 2 c) N rfl (owed_rcv 2 c)]
  exact bigSep_elim (Finset.mem_erase.mpr ⟨hd 2 1 (by decide), Finset.mem_erase.mpr ⟨hd 2 0 (by decide), hm 2⟩⟩)

/-! ## The launch -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, own_sems, other_sems]
  unfold Φ₁ scr
  iintro ⟨Hr, HzB, HzS, HzV⟩
  isplitl [HzB]; · iexact HzB
  isplitl [HzS HzV]
  · isplitl [HzS] <;> iassumption
  iexists (gath m c); iexact Hr

theorem stage_role (w : Fin cfg0.W) (s) : role (.dma ((cfg0.win w).sem s)) = .other := by
  fin_cases w <;> fin_cases s <;> rfl

theorem waits (c : Dev nD) : (levAts L lv : sProp 𝕄) ⊢ Pipeline.cellsWaits cfgs (dats m) () 0 c :=
  Pipeline.cellsWaits_intro cfgs (dats m) () 0 c fun w s t =>
    mayWait_stage c _ (stage_role w s) _ (by
      rcases t with ⟨_ | _, ht⟩
      · exact Or.inl rfl
      · exact Or.inr rfl)

/-- Window `w`'s array after the run. -/
def finalA (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = finalA m c w

set_option maxRecDepth 65536 in
/-- From any memory with the semaphores at zero, every fair run of the four devices ends, each result array at the
    computed contents, the blocks unchanged and every semaphore at zero. -/
theorem run_main (ρ : Dev nD → PrngReg) :
    θ_run defs (onTc (τ := τ) (main (F := F))) (⟨m, fun _ => 0, ρ⟩ : MemSt nD τ sig (Elt F)) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block's array holds what it held. -/
theorem final_x (c : Dev nD) : finalA m c (0 : Fin 2) = m (win0_0.arr.view.loc (c : Thread nD τ)) :=
  (dats (F := F) m 0 c).arrAt_in (0 : Fin 2) rfl _

set_option maxRecDepth 65536 in
theorem after_out (c : Dev nD) (t : Fin cfg0.N) : (dats m 0 c).after (1 : Fin 2) t = outBuf m c := rfl

set_option maxRecDepth 65536 in
/-- The result's array holds what the one point stored. -/
theorem final_out (c : Dev nD) : finalA m c (1 : Fin 2) = outBuf m c := by
  refine (dats m 0 c).arrAt_eq_of_after_last 1 t0_0 (by decide +kernel) _ fun j => ?_
  blk_simp
  exact congrFun (after_out m c _) j

end Cert.TopK

end
-- ==== Proof.Same.lean ====
/-
# The two prints of the kernel are one program

The idealization rewrites nothing, so the two printed programs have one text; here the machine compares them part by
part, and a run of one is a run of the other.
-/
module

public import proofs.«01_k».proof.Defs
public import proofs.«01_k».proof.Proof.Gen.Kernel
public import proofs.«01_k».proof.Proof.Gen.KernelIdeal

@[expose] public section

noncomputable section

namespace Cert.TopK

open Idealize.ShloMosaic Idealize.SL.Sem

variable {F : FTy → Type} [FloatOps F]

attribute [local instance] Cert.Kernel.Gen.facts Cert.KernelIdeal.Gen.facts

set_option maxRecDepth 65536 in
theorem same_labels : @Cert.Kernel.defs₀ F _ _ = @Cert.KernelIdeal.defs₀ F _ _ := by
  refine congrArg Defs.onTc ?_
  funext l
  match l with
  | 0 => funext a; rfl

theorem same_defs : @Cert.Kernel.defs F _ _ = @Cert.KernelIdeal.defs F _ _ :=
  congrArg (Pipeline.defs (@Cert.KernelIdeal.pcfgs F _)) same_labels

/-- A run of the idealized print is a run of the first. -/
theorem run_first (m : (ℓ : Loc Cert.KernelIdeal.nD Cert.KernelIdeal.τ Cert.KernelIdeal.sig) → Buf (Elt F) ℓ)
    (ρ : Dev Cert.KernelIdeal.nD → PrngReg) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [same_defs]
  exact h

end Cert.TopK

end
-- ==== Proof.Nth.lean ====
/-
# The t-th largest of a finite family of extended reals

`IsNth n t v` says of a value that it is entry `t`, counted from zero, of a family in falling order, where `n a` is the
number of entries that are at least `a`: above minus infinity, `a ≤ v` exactly when more than `t` entries are at least
`a`. A family with no more than `t` entries has minus infinity there. One value at most is entry `t`, so two selections
that both find it agree, however they break ties.

A selection that takes the greatest entry, removes it, and does so again, finds the entries in order (`peel`); removing
is either overwriting with minus infinity (`above_update`) or moving up a column that falls (`column_up`).
-/
module

public import Mathlib.Data.EReal.Basic
public import Mathlib.Algebra.BigOperators.Fin
public import Mathlib.Algebra.Order.BigOperators.Group.Finset
public import Mathlib.Data.Fintype.BigOperators
public import Mathlib.Order.Interval.Finset.Fin

@[expose] public section

namespace Cert.TopK

/-- `v` is entry `t` of a family in falling order, `n a` of whose entries are at least `a`. -/
def IsNth (n : EReal → ℕ) (t : ℕ) (v : EReal) : Prop := ∀ a, a ≠ ⊥ → (a ≤ v ↔ t < n a)

theorem IsNth.le {n : EReal → ℕ} {t : ℕ} {v w : EReal} (hv : IsNth n t v) (hw : IsNth n t w) : v ≤ w := by
  by_cases h : v = ⊥
  · rw [h]; exact bot_le
  · exact (hw v h).mpr ((hv v h).mp le_rfl)

/-- Entry `t` is one value. -/
theorem IsNth.unique {n : EReal → ℕ} {t : ℕ} {v w : EReal} (hv : IsNth n t v) (hw : IsNth n t w) : v = w :=
  le_antisymm (hv.le hw) (hw.le hv)

/-- One for an entry that is at least `a`. -/
noncomputable def one (a v : EReal) : ℕ := by classical exact if a ≤ v then 1 else 0

theorem one_of_le {a v : EReal} (h : a ≤ v) : one a v = 1 := by unfold one; simp [h]
theorem one_of_not {a v : EReal} (h : ¬ a ≤ v) : one a v = 0 := by unfold one; simp [h]
theorem one_bot {a : EReal} (h : a ≠ ⊥) : one a ⊥ = 0 := one_of_not fun e => h (le_bot_iff.mp e)

/-- How many entries of a family are at least `a`. -/
noncomputable def above {ι : Type} [Fintype ι] (x : ι → EReal) (a : EReal) : ℕ := ∑ i, one a (x i)

theorem above_pos {ι : Type} [Fintype ι] {x : ι → EReal} {a : EReal} : 0 < above x a ↔ ∃ i, a ≤ x i := by
  unfold above
  constructor
  · intro h
    by_contra hn
    push Not at hn
    rw [Finset.sum_eq_zero fun i _ => one_of_not (not_le.mpr (hn i))] at h
    exact absurd h (lt_irrefl _)
  · rintro ⟨i, hi⟩
    refine lt_of_lt_of_le ?_ (Finset.single_le_sum (f := fun i => one a (x i)) (fun _ _ => Nat.zero_le _) (Finset.mem_univ i))
    show 0 < one a (x i)
    rw [one_of_le hi]; exact Nat.one_pos

/-- A selection that at each step takes a value `mx t` that is at least `a` exactly when some entry is, and leaves a family
    with that one entry less, finds the entries of the first family in order. -/
theorem peel (n : ℕ → EReal → ℕ) (mx : ℕ → EReal) (h0 : ∀ t a, a ≠ ⊥ → (a ≤ mx t ↔ 0 < n t a))
    (h1 : ∀ t a, a ≠ ⊥ → n (t + 1) a + one a (mx t) = n t a) (t : ℕ) : IsNth (n 0) t (mx t) := by
  intro a ha
  have hn : ∀ t, n t a = n 0 a - t := by
    intro t
    induction t with
    | zero => rfl
    | succ t ih =>
      have hs := h1 t a ha
      by_cases hp : a ≤ mx t
      · rw [one_of_le hp] at hs; omega
      · rw [one_of_not hp] at hs
        have := (h0 t a ha).not.mp hp
        omega
  rw [h0 t a ha, hn t]; omega

/-- The greatest entry overwritten with minus infinity: one entry less. -/
theorem above_update {ι : Type} [Fintype ι] [DecidableEq ι] (x y : ι → EReal) (p : ι) (hp : y p = ⊥) (hy : ∀ i, i ≠ p → y i = x i)
    {a : EReal} (ha : a ≠ ⊥) : above y a + one a (x p) = above x a := by
  unfold above
  rw [← Finset.add_sum_erase _ _ (Finset.mem_univ p), ← Finset.add_sum_erase _ (fun i => one a (x i)) (Finset.mem_univ p), hp, one_bot ha,
    Finset.sum_congr rfl fun i hi => by rw [hy i (Finset.ne_of_mem_erase hi)]]
  omega

/-- A falling column of eight with minus infinity below, moved up by one: its first entry less. -/
theorem column_up (s : ℕ → EReal) (h8 : s 8 = ⊥) {a : EReal} (ha : a ≠ ⊥) :
    (∑ j ∈ Finset.range 8, one a (s (j + 1))) + one a (s 0) = ∑ j ∈ Finset.range 8, one a (s j) := by
  rw [← Finset.sum_range_succ' (fun j => one a (s j)) 8, Finset.sum_range_succ, h8, one_bot ha, Nat.add_zero]

/-! ## Columns side by side -/

/-- How many entries of the columns of slabs are at least `a`. -/
noncomputable def slabsAbove {L : Type} [Fintype L] (s : ℕ → L → EReal) (a : EReal) : ℕ := ∑ l, ∑ j ∈ Finset.range 8, one a (s j l)

/-- Columns that fall, over minus infinity from the ninth on; step after step, the column whose first entry is the greatest
    of all first entries moves up by one. The greatest first entries are the entries of the whole in falling order. -/
theorem slabs_nth {L : Type} [Fintype L] [DecidableEq L] (s : ℕ → ℕ → L → EReal) (h : ℕ → L)
    (hfall : ∀ j l, s 0 (j + 1) l ≤ s 0 j l) (hbot : ∀ j l, 8 ≤ j → s 0 j l = ⊥)
    (hmax : ∀ t l, s t 0 l ≤ s t 0 (h t)) (hstep : ∀ t j l, s (t + 1) j l = if l = h t then s t (j + 1) l else s t j l)
    (t : ℕ) : IsNth (slabsAbove (s 0)) t (s t 0 (h t)) := by
  have fall : ∀ t j l, s t (j + 1) l ≤ s t j l := by
    intro t
    induction t with
    | zero => exact hfall
    | succ t ih =>
      intro j l
      rw [hstep, hstep]
      by_cases hl : l = h t
      · rw [if_pos hl, if_pos hl]; exact ih _ _
      · rw [if_neg hl, if_neg hl]; exact ih _ _
  have bot : ∀ t j l, 8 ≤ j → s t j l = ⊥ := by
    intro t
    induction t with
    | zero => exact hbot
    | succ t ih =>
      intro j l hj
      rw [hstep]
      by_cases hl : l = h t
      · rw [if_pos hl]; exact ih _ _ (by omega)
      · rw [if_neg hl]; exact ih _ _ hj
  have top : ∀ t j l, s t j l ≤ s t 0 (h t) := by
    intro t j l
    refine le_trans ?_ (hmax t l)
    induction j with
    | zero => exact le_rfl
    | succ j ih => exact (fall t j l).trans ih
  refine peel (fun t => slabsAbove (s t)) (fun t => s t 0 (h t)) (fun t a ha => ?_) (fun t a ha => ?_) t
  · constructor
    · intro hle
      refine lt_of_lt_of_le ?_ (Finset.single_le_sum (f := fun l => ∑ j ∈ Finset.range 8, one a (s t j l)) (fun _ _ => Nat.zero_le _) (Finset.mem_univ (h t)))
      refine lt_of_lt_of_le ?_ (Finset.single_le_sum (f := fun j => one a (s t j (h t))) (fun _ _ => Nat.zero_le _) (Finset.mem_range.mpr (by omega : 0 < 8)))
      show 0 < one a (s t 0 (h t))
      rw [one_of_le hle]; exact Nat.one_pos
    · intro hpos
      by_contra hn
      refine absurd hpos (not_lt.mpr (le_of_eq ?_))
      exact Finset.sum_eq_zero fun l _ => Finset.sum_eq_zero fun j _ => one_of_not fun hle => hn (hle.trans (top t j l))
  · show slabsAbove (s (t + 1)) a + one a (s t 0 (h t)) = slabsAbove (s t) a
    unfold slabsAbove
    rw [← Finset.add_sum_erase _ _ (Finset.mem_univ (h t)), ← Finset.add_sum_erase _ (fun l => ∑ j ∈ Finset.range 8, one a (s t j l)) (Finset.mem_univ (h t)),
      ← column_up (fun j => s t j (h t)) (bot t 8 _ le_rfl) ha,
      Finset.sum_congr rfl fun l hl => Finset.sum_congr rfl fun j _ => by rw [hstep, if_neg (Finset.ne_of_mem_erase hl)],
      Finset.sum_congr (s₁ := Finset.range 8) rfl fun j _ => by rw [hstep, if_pos rfl]]
    omega

/-- One vector; step after step the greatest entry is overwritten with minus infinity. The entries so found are the
    entries in falling order. -/
theorem update_nth {L : Type} [Fintype L] [DecidableEq L] (s : ℕ → L → EReal) (h : ℕ → L)
    (hmax : ∀ t l, s t l ≤ s t (h t)) (hstep : ∀ t l, s (t + 1) l = if l = h t then ⊥ else s t l)
    (t : ℕ) : IsNth (above (s 0)) t (s t (h t)) := by
  refine peel (fun t => above (s t)) (fun t => s t (h t)) (fun t a _ => ?_) (fun t a ha => ?_) t
  · rw [above_pos]
    exact ⟨fun hle => ⟨_, hle⟩, fun ⟨i, hi⟩ => hi.trans (hmax t i)⟩
  · exact above_update (s t) (s (t + 1)) (h t) (by rw [hstep, if_pos rfl]) (fun i hi => by rw [hstep, if_neg hi]) ha

/-- In a sequence that does not rise, an entry is at least `a` exactly when more entries than its place are. -/
theorem fall_count {N : ℕ} (y : Fin N → EReal) (hy : ∀ i j, i ≤ j → y j ≤ y i) (a : EReal) (t : Fin N) : a ≤ y t ↔ t.val < above y a := by
  classical
  have hc : above y a = (Finset.univ.filter fun i => a ≤ y i).card := by
    unfold above one
    rw [Finset.card_filter]
  rw [hc]
  constructor
  · intro h
    have hsub : Finset.Iic t ⊆ Finset.univ.filter fun i => a ≤ y i := fun i hi =>
      Finset.mem_filter.mpr ⟨Finset.mem_univ i, h.trans (hy i t (Finset.mem_Iic.mp hi))⟩
    have := Finset.card_le_card hsub
    rw [Fin.card_Iic] at this
    omega
  · intro h
    by_contra hn
    have hsub : (Finset.univ.filter fun i => a ≤ y i) ⊆ Finset.Iio t := fun i hi => by
      rw [Finset.mem_Iio]
      by_contra hle
      exact hn ((Finset.mem_filter.mp hi).2.trans (hy t i (not_lt.mp hle)))
    have := Finset.card_le_card hsub
    rw [Fin.card_Iio] at this
    omega

/-! ## The eight of each device among the eight of all -/

/-- How many of a device's first eight entries are at least `a`. -/
theorem above_first (n : EReal → ℕ) (v : Fin 8 → EReal) (hv : ∀ t : Fin 8, IsNth n t.val (v t)) {a : EReal} (ha : a ≠ ⊥) :
    above v a = min 8 (n a) := by
  unfold above
  have : ∀ t : Fin 8, one a (v t) = if t.val < n a then 1 else 0 := by
    intro t
    by_cases h : t.val < n a
    · rw [if_pos h, one_of_le ((hv t a ha).mpr h)]
    · rw [if_neg h, one_of_not fun e => h ((hv t a ha).mp e)]
  rw [Finset.sum_congr rfl fun t _ => this t]
  simp only [Fin.sum_univ_eight]
  show (if 0 < n a then 1 else 0) + (if 1 < n a then 1 else 0) + (if 2 < n a then 1 else 0) + (if 3 < n a then 1 else 0)
    + (if 4 < n a then 1 else 0) + (if 5 < n a then 1 else 0) + (if 6 < n a then 1 else 0) + (if 7 < n a then 1 else 0) = min 8 (n a)
  split_ifs <;> omega

/-- The first eight entries of the devices' first eights are the first eight entries of all. -/
theorem nth_of_first {D : Type} [Fintype D] (n : D → EReal → ℕ) {t : ℕ} (ht : t < 8) {v : EReal}
    (hv : IsNth (fun a => ∑ d, min 8 (n d a)) t v) : IsNth (fun a => ∑ d, n d a) t v := by
  intro a ha
  rw [hv a ha]
  show t < ∑ d, min 8 (n d a) ↔ t < ∑ d, n d a
  constructor
  · exact fun h => lt_of_lt_of_le h (Finset.sum_le_sum fun d _ => Nat.min_le_right _ _)
  · intro h
    by_cases hb : ∃ d, 8 ≤ n d a
    · obtain ⟨d, hd⟩ := hb
      refine lt_of_lt_of_le ?_ (Finset.single_le_sum (f := fun d => min 8 (n d a)) (fun _ _ => Nat.zero_le _) (Finset.mem_univ d))
      show t < min 8 (n d a)
      omega
    · push Not at hb
      rwa [Finset.sum_congr rfl fun d _ => (by have := hb d; omega : min 8 (n d a) = n d a)]

/-! ## The place a greatest entry is first found at -/

/-- A vector's greatest entry is at a place: the least of the places where the vector equals its greatest entry, if every
    other place is given a number above all of them. -/
theorem first_place {N : ℕ} (hN : 0 < N) (f : Fin N → EReal) (big : EReal) (hbig : ∀ l : Fin N, ((l.val : ℝ) : EReal) < big) :
    ∃ h : Fin N, (Finset.univ.fold max ⊥ f = f h) ∧ (∀ l, f l ≤ f h)
      ∧ ∀ l : Fin N, ((l.val : ℝ) : EReal) = Finset.univ.fold min ⊤ (fun k => if f k = Finset.univ.fold max ⊥ f then ((k.val : ℝ) : EReal) else big) ↔ l = h := by
  classical
  have hne : (Finset.univ : Finset (Fin N)).Nonempty := ⟨⟨0, hN⟩, Finset.mem_univ _⟩
  have e1 : Finset.univ.fold max ⊥ f = Finset.univ.sup f := rfl
  set g : Fin N → EReal := fun k => if f k = Finset.univ.fold max ⊥ f then ((k.val : ℝ) : EReal) else big with hg
  have e2 : Finset.univ.fold min ⊤ g = Finset.univ.inf g := rfl
  obtain ⟨p, -, hp⟩ := Finset.exists_mem_eq_sup Finset.univ hne f
  obtain ⟨h, -, hh⟩ := Finset.exists_mem_eq_inf Finset.univ hne g
  have hgp : g p = ((p.val : ℝ) : EReal) := by
    show (if f p = Finset.univ.fold max ⊥ f then _ else _) = _
    rw [if_pos (by rw [e1, hp])]
  have hfh : f h = Finset.univ.fold max ⊥ f := by
    by_contra hn
    have h1 : g h = big := if_neg hn
    have h2 : Finset.univ.inf g ≤ g p := Finset.inf_le (Finset.mem_univ p)
    rw [hh, h1, hgp] at h2
    exact absurd h2 (not_le.mpr (hbig p))
  have hgh : g h = ((h.val : ℝ) : EReal) := if_pos hfh
  refine ⟨h, hfh.symm, fun l => ?_, fun l => ?_⟩
  · rw [hfh, e1]; exact Finset.le_sup (Finset.mem_univ l)
  · rw [e2, hh, hgh]
    constructor
    · intro e
      have : (l.val : ℝ) = h.val := EReal.coe_injective e
      exact Fin.ext (by exact_mod_cast this)
    · rintro rfl; rfl

end Cert.TopK

end
-- ==== Proof.Network.lean ====
/-
# The network of nineteen exchanges sorts eight values

The network is written over any two operations that stand for the larger and the smaller of two values (`net`). Whether an
output is at least `a` depends on the inputs only through which of them are (`net_le`), so that the outputs fall and are
the inputs in another order is a statement about eight truth values, checked on all of them.
-/
module

public import proofs.«01_k».proof.Proof.Nth
public import Mathlib.Tactic.FinCases

@[expose] public section

namespace Cert.TopK

/-- Output `j` of the network, largest first; `hi` and `lo` of two values are the larger and the smaller. -/
def net {α : Type} (hi lo : α → α → α) (v : Fin 8 → α) : ℕ → α :=
  -- within pairs, the pairs' larger and smaller ones, and the middles: two fours in falling order
  let a₀ := hi (v 0) (v 1); let a₁ := lo (v 0) (v 1); let a₂ := hi (v 2) (v 3); let a₃ := lo (v 2) (v 3)
  let a₄ := hi (v 4) (v 5); let a₅ := lo (v 4) (v 5); let a₆ := hi (v 6) (v 7); let a₇ := lo (v 6) (v 7)
  let b₀ := hi a₀ a₂; let b₂ := lo a₀ a₂; let b₁ := hi a₁ a₃; let b₃ := lo a₁ a₃
  let b₄ := hi a₄ a₆; let b₆ := lo a₄ a₆; let b₅ := hi a₅ a₇; let b₇ := lo a₅ a₇
  let c₁ := hi b₁ b₂; let c₂ := lo b₁ b₂; let c₅ := hi b₅ b₆; let c₆ := lo b₅ b₆
  -- the fours merged: four apart, two apart, one apart
  let d₀ := hi b₀ b₄; let d₄ := lo b₀ b₄; let d₁ := hi c₁ c₅; let d₅ := lo c₁ c₅
  let d₂ := hi c₂ c₆; let d₆ := lo c₂ c₆; let d₃ := hi b₃ b₇; let d₇ := lo b₃ b₇
  let e₂ := hi d₂ d₄; let e₄ := lo d₂ d₄; let e₃ := hi d₃ d₅; let e₅ := lo d₃ d₅
  fun
  | 0 => d₀
  | 1 => hi d₁ e₂
  | 2 => lo d₁ e₂
  | 3 => hi e₃ e₄
  | 4 => lo e₃ e₄
  | 5 => hi e₅ d₆
  | 6 => lo e₅ d₆
  | _ => d₇

/-- A map that turns `hi` into `hi'` and `lo` into `lo'` turns the network into the network. -/
theorem net_map {α β : Type} (f : α → β) {hi lo : α → α → α} {hi' lo' : β → β → β} (hh : ∀ x y, f (hi x y) = hi' (f x) (f y))
    (hl : ∀ x y, f (lo x y) = lo' (f x) (f y)) (v : Fin 8 → α) (j : ℕ) : f (net hi lo v j) = net hi' lo' (fun i => f (v i)) j := by
  rcases j with _ | _ | _ | _ | _ | _ | _ | j <;> simp only [net, hh, hl]

/-- On truth values: each output implies the one before. -/
theorem net_bool_fall : ∀ b₀ b₁ b₂ b₃ b₄ b₅ b₆ b₇ : Bool, ∀ j : Fin 7,
    net or and ![b₀, b₁, b₂, b₃, b₄, b₅, b₆, b₇] (j.val + 1) = true → net or and ![b₀, b₁, b₂, b₃, b₄, b₅, b₆, b₇] j.val = true := by
  decide +kernel

/-- On truth values: as many outputs hold as inputs. -/
theorem net_bool_count : ∀ b₀ b₁ b₂ b₃ b₄ b₅ b₆ b₇ : Bool,
    ((net or and ![b₀, b₁, b₂, b₃, b₄, b₅, b₆, b₇] 0).toNat + (net or and ![b₀, b₁, b₂, b₃, b₄, b₅, b₆, b₇] 1).toNat
      + (net or and ![b₀, b₁, b₂, b₃, b₄, b₅, b₆, b₇] 2).toNat + (net or and ![b₀, b₁, b₂, b₃, b₄, b₅, b₆, b₇] 3).toNat
      + (net or and ![b₀, b₁, b₂, b₃, b₄, b₅, b₆, b₇] 4).toNat + (net or and ![b₀, b₁, b₂, b₃, b₄, b₅, b₆, b₇] 5).toNat
      + (net or and ![b₀, b₁, b₂, b₃, b₄, b₅, b₆, b₇] 6).toNat + (net or and ![b₀, b₁, b₂, b₃, b₄, b₅, b₆, b₇] 7).toNat)
    = b₀.toNat + b₁.toNat + b₂.toNat + b₃.toNat + b₄.toNat + b₅.toNat + b₆.toNat + b₇.toNat := by
  decide +kernel

/-- Whether an output is at least `a`, from which inputs are. -/
theorem net_le (v : Fin 8 → EReal) (a : EReal) (j : ℕ) [∀ x : EReal, Decidable (a ≤ x)] :
    decide (a ≤ net max min v j) = net or and (fun i => decide (a ≤ v i)) j :=
  net_map (fun x => decide (a ≤ x)) (fun x y => by simp only [le_max_iff, Bool.decide_or])
    (fun x y => by simp only [le_min_iff, Bool.decide_and]) v j

theorem vec8 {α : Type} (v : Fin 8 → α) : v = ![v 0, v 1, v 2, v 3, v 4, v 5, v 6, v 7] := by
  funext i; fin_cases i <;> rfl

/-- The outputs fall. -/
theorem net_fall (v : Fin 8 → EReal) (j : ℕ) (hj : j < 7) : net max min v (j + 1) ≤ net max min v j := by
  classical
  set a := net max min v (j + 1) with ha
  have h : decide (a ≤ net max min v (j + 1)) = true := decide_eq_true ha.le
  rw [net_le, vec8 fun i => decide (a ≤ v i)] at h
  have h' := net_bool_fall _ _ _ _ _ _ _ _ ⟨j, hj⟩ h
  rw [← vec8 fun i => decide (a ≤ v i), ← net_le] at h'
  exact of_decide_eq_true h'

/-- One for an entry that is at least `a`, by the truth value. -/
theorem one_eq (a v : EReal) [Decidable (a ≤ v)] : one a v = (decide (a ≤ v)).toNat := by
  by_cases h : a ≤ v
  · rw [one_of_le h, decide_eq_true h]; rfl
  · rw [one_of_not h, decide_eq_false h]; rfl

/-- As many outputs are at least `a` as inputs. -/
theorem net_count (v : Fin 8 → EReal) (a : EReal) : ∑ j ∈ Finset.range 8, one a (net max min v j) = ∑ i, one a (v i) := by
  classical
  have h := net_bool_count (decide (a ≤ v 0)) (decide (a ≤ v 1)) (decide (a ≤ v 2)) (decide (a ≤ v 3)) (decide (a ≤ v 4))
    (decide (a ≤ v 5)) (decide (a ≤ v 6)) (decide (a ≤ v 7))
  rw [← vec8 fun i => decide (a ≤ v i)] at h
  simp only [← net_le, ← one_eq] at h
  rw [Fin.sum_univ_eight, ← h]
  simp only [Finset.sum_range_succ, Finset.sum_range_zero, Nat.zero_add]

end Cert.TopK

end
-- ==== Proof.Step.lean ====
/-
# What one step of a selection takes

Both selections read a row's maximum, find the first place the row equals it (by the least of the places' numbers, every
other place being given 30000), and change the row there. Read at an index, on the extended reals.
-/
module

public import proofs.«01_k».proof.Proof.Cols
public import proofs.«01_k».proof.Proof.Network
public import Idealize.ShloMosaic.Lib.Pointwise

@[expose] public section

noncomputable section

namespace Cert.TopK

open Cert.KernelIdeal Cert.KernelIdeal.Gen

open Idealize.ShloMosaic

/-! ## The constants -/

theorem bits_bot16 : Ideal.ofBits .bf16 0xFF80#16 = ⊥ := by simp [Ideal.ofBits, Ideal.ieee]
theorem bits_top16 : Ideal.ofBits .bf16 0x7F80#16 = ⊤ := by simp [Ideal.ofBits, Ideal.ieee]
theorem bits_bot32 : Ideal.ofBits .f32 0xFF800000#32 = ⊥ := by simp [Ideal.ofBits, Ideal.ieee]
theorem bits_far : Ideal.ofBits .f32 0x46EA6000#32 = ((30000 : ℝ) : EReal) := by
  simp [Ideal.ofBits, Ideal.ieee, -EReal.coe_mul]; norm_num

/-- A place's number as a float. -/
theorem number (n : ℕ) (hn : n < 2 ^ 31) : (FloatOps.sitofp .bf16 (BitVec.ofNat 32 n) : Ideal .bf16) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat, Nat.mod_eq_of_lt (by omega)]; omega), BitVec.toNat_ofNat,
      Nat.mod_eq_of_lt (by omega)]
  rw [this]; norm_cast

/-- Every place's number is below 30000. -/
theorem number_lt {N : ℕ} (hN : N ≤ 30000) (l : Fin N) : ((l.val : ℝ) : EReal) < ((30000 : ℝ) : EReal) := by
  rw [EReal.coe_lt_coe_iff]
  have : l.val < 30000 := lt_of_lt_of_le l.isLt hN
  exact_mod_cast this

/-! ## A device's own selection -/

/-- One step on the first slab: the column stored holds the row's greatest entry, and the hit is one lane that has it. -/
theorem own_place (f : FVec Ideal S256x128 .bf16) (r : Fin 256) : ∃ h : Fin 128,
    k0_pay50 f (ix3 0 r 0) = f (ix2 r h) ∧ (∀ l, f (ix2 r l) ≤ f (ix2 r h))
      ∧ ∀ (u v : FVec Ideal S256x128 .bf16) (l : Fin 128), select (k0_pay51 f) u v (ix2 r l) = if l = h then u (ix2 r l) else v (ix2 r l) := by
  obtain ⟨h, h1, h2, h3⟩ := first_place (N := 128) (by decide) (fun l => f (ix2 r l)) _ (number_lt (by decide))
  refine ⟨h, ?_, h2, fun u v l => ?_⟩
  · pointwise [k0_pay50, k0_pay49]
    rw [bits_bot16]; exact h1
  · pointwise [k0_pay51, k0_pay49, k0_pay48]
    have e : ∀ k : Fin 128, (FloatOps.sitofp .bf16 (BitVec.ofNat 32 k.val) : Ideal .bf16) = ((k.val : ℝ) : EReal) :=
      fun k => number _ (by omega)
    simp only [bits_bot16, bits_top16, bits_far, e]
    simp only [h3 l]

/-- The slab the selection has below the eighth. -/
theorem floorSlab_at (r : Fin 256) (l : Fin 128) : (floorSlab : FVec Ideal S256x128 .bf16) (ix2 r l) = ⊥ := by
  pointwise [floorSlab]; exact bits_bot32

/-! ## The selection among all candidates -/

/-- One step: the column stored holds the row's greatest entry, and one place that has it is overwritten. -/
theorem all_place (f : FVec Ideal S256x32 .bf16) (r : Fin 256) : ∃ h : Fin 32,
    k0_pay108 f (ix2 r 0) = f (ix2 r h) ∧ (∀ l, f (ix2 r l) ≤ f (ix2 r h))
      ∧ ∀ l : Fin 32, k0_pay109 k0_pay96 f (ix2 r l) = if l = h then (⊥ : EReal) else f (ix2 r l) := by
  obtain ⟨h, h1, h2, h3⟩ := first_place (N := 32) (by decide) (fun l => f (ix2 r l)) _ (number_lt (by decide))
  refine ⟨h, ?_, h2, fun l => ?_⟩
  · pointwise [k0_pay108, k0_pay107]
    rw [bits_bot16]; exact h1
  · pointwise [k0_pay109, k0_pay107, k0_pay96]
    have e : ∀ k : Fin 32, (FloatOps.sitofp .bf16 (BitVec.ofNat 32 k.val) : Ideal .bf16) = ((k.val : ℝ) : EReal) :=
      fun k => number _ (by omega)
    simp only [bits_bot16, bits_top16, bits_bot32, bits_far, e]
    simp only [h3 l]

/-! ## The network's slabs -/

/-- Slab `j` after the network, at a lane: the network of the row's eight entries in that lane. -/
theorem sorted_net (x : Vec Ideal S256x1024 .bf16) (r : Fin 256) (l : Fin 128) (j : ℕ) (hj : j < 8) :
    sortedAt x j (ix2 r l) = net (α := EReal) max min (fun i : Fin 8 => x (ix2 r ⟨128 * i.val + l.val, by omega⟩)) j := by
  have e2 : k0_pay2 x (ix2 r l) = x (ix2 r ⟨128 * (0 : Fin 8).val + l.val, by omega⟩) := by pointwise [k0_pay2, k0_pay1]
  have e3 : k0_pay3 x (ix2 r l) = x (ix2 r ⟨128 * (1 : Fin 8).val + l.val, by omega⟩) := by pointwise [k0_pay3, k0_pay1]
  have e4 : k0_pay4 x (ix2 r l) = x (ix2 r ⟨128 * (2 : Fin 8).val + l.val, by omega⟩) := by pointwise [k0_pay4, k0_pay1]
  have e5 : k0_pay5 x (ix2 r l) = x (ix2 r ⟨128 * (3 : Fin 8).val + l.val, by omega⟩) := by pointwise [k0_pay5, k0_pay1]
  have e6 : k0_pay6 x (ix2 r l) = x (ix2 r ⟨128 * (4 : Fin 8).val + l.val, by omega⟩) := by pointwise [k0_pay6, k0_pay1]
  have e7 : k0_pay7 x (ix2 r l) = x (ix2 r ⟨128 * (5 : Fin 8).val + l.val, by omega⟩) := by pointwise [k0_pay7, k0_pay1]
  have e8 : k0_pay8 x (ix2 r l) = x (ix2 r ⟨128 * (6 : Fin 8).val + l.val, by omega⟩) := by pointwise [k0_pay8, k0_pay1]
  have e9 : k0_pay9 x (ix2 r l) = x (ix2 r ⟨128 * (7 : Fin 8).val + l.val, by omega⟩) := by pointwise [k0_pay9, k0_pay1]
  have key : sortedAt x j (ix2 r l) = net (α := EReal) max min ![k0_pay2 x (ix2 r l), k0_pay3 x (ix2 r l), k0_pay4 x (ix2 r l),
      k0_pay5 x (ix2 r l), k0_pay6 x (ix2 r l), k0_pay7 x (ix2 r l), k0_pay8 x (ix2 r l), k0_pay9 x (ix2 r l)] j := by
    rcases j with _ | _ | _ | _ | _ | _ | _ | _ | j
    all_goals first | rfl | omega
  rw [key, e2, e3, e4, e5, e6, e7, e8, e9]
  exact congrArg (fun v => net (α := EReal) max min v j) (vec8 fun i : Fin 8 => x (ix2 r ⟨128 * i.val + l.val, by omega⟩)).symm

end Cert.TopK

end
-- ==== Proof.Found.lean ====
/-
# What the two selections find

The column a device stores at step `t` holds, row by row, entry `t` of the device's 1024 columns in falling order; the
result's column `t` entry `t` of the 32 candidates.
-/
module

public import proofs.«01_k».proof.Proof.Step

@[expose] public section

noncomputable section

namespace Cert.TopK

open Cert.KernelIdeal Cert.KernelIdeal.Gen

open Idealize.ShloMosaic

/-! ## A device's own eight -/

/-- The numbers 0 to 1023, as a slab and a lane of it. -/
def slabLane : Fin 128 × Fin 8 ≃ Fin 1024 := (Equiv.prodComm _ _).trans (finProdFinEquiv (m := 8) (n := 128))

theorem slabLane_val (l : Fin 128) (i : Fin 8) : (slabLane (l, i)).val = 128 * i.val + l.val := by
  show (finProdFinEquiv (m := 8) (n := 128) (i, l)).val = _
  rw [finProdFinEquiv_apply_val, Nat.add_comm]

/-- Row `r` of a device's block. -/
def rowOf (x : Vec Ideal S256x1024 .bf16) (r : Fin 256) : Fin 1024 → EReal := fun k => x (ix2 r k)

/-- The sorted slabs hold the row's entries. -/
theorem slabsAbove_sorted (x : Vec Ideal S256x1024 .bf16) (r : Fin 256) (a : EReal) :
    slabsAbove (fun j l => sortedAt x j (ix2 r l)) a = above (rowOf x r) a := by
  unfold slabsAbove above
  rw [← Equiv.sum_comp slabLane, Fintype.sum_prod_type]
  refine Finset.sum_congr rfl fun l _ => ?_
  refine (Finset.sum_congr rfl fun j hj => congrArg (one a) (sorted_net x r l j (Finset.mem_range.mp hj))).trans ((net_count _ a).trans ?_)
  refine Finset.sum_congr rfl fun i _ => ?_
  show one a (x (ix2 r _)) = one a (x (ix2 r _))
  congr 3
  exact Fin.ext (slabLane_val l i).symm

/-- The column stored at step `t`: entry `t` of the row. -/
theorem cand_nth (x : Vec Ideal S256x1024 .bf16) (r : Fin 256) (t : ℕ) : IsNth (above (rowOf x r)) t (candCol x t (ix3 0 r 0)) := by
  choose h h1 h2 h3 using fun t => own_place (slabAt x t 0) r
  have key := slabs_nth (fun t j l => slabAt x t j (ix2 r l)) h (fun j l => ?_) (fun j l hj => ?_) h2 (fun t j l => h3 t _ _ l) t
  · rw [show (slabsAbove fun j l => slabAt x 0 j (ix2 r l)) = above (rowOf x r) from funext (slabsAbove_sorted x r)] at key
    rw [show candCol x t (ix3 0 r 0) = slabAt x t 0 (ix2 r (h t)) from h1 t]
    exact key
  · show sortedAt x (j + 1) (ix2 r l) ≤ sortedAt x j (ix2 r l)
    by_cases hj : j < 7
    · rw [sorted_net x r l j (by omega), sorted_net x r l (j + 1) (by omega)]
      exact net_fall _ j hj
    · obtain ⟨i, rfl⟩ : ∃ i, j = i + 7 := ⟨j - 7, by omega⟩
      show (floorSlab : FVec Ideal S256x128 .bf16) (ix2 r l) ≤ _
      rw [floorSlab_at]; exact bot_le
  · obtain ⟨i, rfl⟩ : ∃ i, j = i + 8 := ⟨j - 8, by omega⟩
    exact floorSlab_at r l

/-! ## The eight of all candidates -/

/-- The result's column `t`: entry `t` of the row of candidates. -/
theorem out_nth (f : FVec Ideal S256x32 .bf16) (r : Fin 256) (t : ℕ) :
    IsNth (above fun p : Fin 32 => (f (ix2 r p) : EReal)) t (outCol f t (ix2 r 0)) := by
  choose h h1 h2 h3 using fun t => all_place (mergeAt f t) r
  rw [show outCol f t (ix2 r 0) = mergeAt f t (ix2 r (h t)) from h1 t]
  exact update_nth (fun t l => mergeAt f t (ix2 r l)) h h2 h3 t

end Cert.TopK

end
-- ==== Proof.Result.lean ====
/-
# The kernel's result on the extended reals

On every device, entry (r, t) of the result is entry `t` of row `r` of all four blocks in falling order.
-/
module

public import proofs.«01_k».proof.Proof.Columns
public import proofs.«01_k».proof.Proof.Found

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt Ideal) ℓ)

set_option maxRecDepth 65536 in
/-- A slot of the gathered candidates, at an index. -/
theorem slotRead_at (c : Dev nD) (s : Fin 4) (r : Fin 256) (t : Fin 8) :
    slotRead m c s (ix3 0 r t) = candCol (xstg m (ahead s c)) t.val (ix3 0 r 0) := by
  have e : ∀ i : S4x256x8.Idx, i = at3 s r t → gath m c i = candCol (xstg m (ahead s c)) t.val (ix3 0 r 0) := by
    rintro i rfl
    show candCol (xstg m (ahead s c)) t.val (at1 r) = _
    congr 1
    funext a; fin_cases a <;> rfl
  refine e _ (funext fun a => Fin.ext ?_)
  fin_cases a
  · show s.val + 1 * 0 = s.val; omega
  · show 0 + 1 * r.val = r.val; omega
  · show 0 + 1 * t.val = t.val; omega

/-- Column `t` of slot `s`, among the candidates side by side. -/
theorem pool_at (c : Dev nD) (r : Fin 256) (s : Fin 4) (t : Fin 8) :
    pool m c (ix2 r (finProdFinEquiv (m := 4) (n := 8) (s, t))) = candCol (xstg m (ahead s c)) t.val (ix3 0 r 0) := by
  rw [← slotRead_at]
  have hv : (finProdFinEquiv (m := 4) (n := 8) (s, t)).val = t.val + 8 * s.val := finProdFinEquiv_apply_val _
  generalize finProdFinEquiv (m := 4) (n := 8) (s, t) = p at hv
  obtain ⟨p, hp⟩ := p
  obtain rfl : p = t.val + 8 * s.val := hv
  have ht := t.isLt
  pointwise [pool, k0_pay95]
  rcases s with ⟨_ | _ | _ | _ | s, hs⟩
  · rw [dif_pos (by show t.val + 8 * 0 < 8; omega)]; rfl
  · rw [dif_neg (by show ¬ t.val + 8 * 1 < 8; omega), dif_pos (by show t.val + 8 * 1 - 8 < 8; omega)]
    exact congrArg (fun k => slotRead m c 1 (ix3 0 r k)) (Fin.ext (by show t.val + 8 * 1 - 8 = t.val; omega))
  · rw [dif_neg (by show ¬ t.val + 8 * 2 < 8; omega), dif_neg (by show ¬ t.val + 8 * 2 - 8 < 8; omega),
      dif_pos (by show t.val + 8 * 2 - 8 - 8 < 8; omega)]
    exact congrArg (fun k => slotRead m c 2 (ix3 0 r k)) (Fin.ext (by show t.val + 8 * 2 - 8 - 8 = t.val; omega))
  · rw [dif_neg (by show ¬ t.val + 8 * 3 < 8; omega), dif_neg (by show ¬ t.val + 8 * 3 - 8 < 8; omega),
      dif_neg (by show ¬ t.val + 8 * 3 - 8 - 8 < 8; omega)]
    exact congrArg (fun k => slotRead m c 3 (ix3 0 r k)) (Fin.ext (by show t.val + 8 * 3 - 8 - 8 - 8 = t.val; omega))
  · omega

theorem ahead_bij (c : Dev nD) : Function.Bijective fun s => ahead s c := by revert c; decide

/-- Entry (r, t) of the result. -/
theorem out_value (c : Dev nD) (r : Fin 256) (t : Fin 8) :
    IsNth (fun a => ∑ d : Fin 4, above (rowOf (xstg m d) r) a) t.val (outBuf m c (ix2 r t)) := by
  have h := out_nth (pool m c) r t.val
  have e : (above fun p : Fin 32 => (pool m c (ix2 r p) : EReal)) = fun a => ∑ s : Fin 4, above (fun t : Fin 8 => (candCol (xstg m (ahead s c)) t.val (ix3 0 r 0) : EReal)) a := by
    funext a
    unfold above
    rw [← Equiv.sum_comp (finProdFinEquiv (m := 4) (n := 8)), Fintype.sum_prod_type]
    exact Finset.sum_congr rfl fun s _ => Finset.sum_congr rfl fun t _ => congrArg (one a) (pool_at m c r s t)
  rw [e] at h
  have h' : IsNth (fun a => ∑ s : Fin 4, min 8 (above (rowOf (xstg m (ahead s c)) r) a)) t.val (outCol (pool m c) t.val (ix2 r 0)) := by
    intro a ha
    rw [h a ha]
    show t.val < ∑ s, _ ↔ t.val < ∑ s, _
    rw [Finset.sum_congr rfl fun s _ => above_first (above (rowOf (xstg m (ahead s c)) r)) _ (fun t => cand_nth (xstg m (ahead s c)) r t.val) ha]
  have h'' := nth_of_first (fun s : Fin 4 => above (rowOf (xstg m (ahead s c)) r)) t.isLt h'
  have e2 : (fun a => ∑ s : Fin 4, above (rowOf (xstg m (ahead s c)) r) a) = fun a => ∑ d : Fin 4, above (rowOf (xstg m d) r) a :=
    funext fun a => Function.Bijective.sum_comp (ahead_bij c) fun d => above (rowOf (xstg m d) r) a
  rw [e2] at h''
  have e3 : outBuf m c (ix2 r t) = outCol (pool m c) t.val (ix2 r 0) := by
    show outCol (pool m c) t.val (Shape.pair r (0 : Fin 1)) = _
    congr 1
    funext a; fin_cases a <;> rfl
  rw [e3]
  exact h''

end Cert.TopK

end
-- ==== Proof.Sorted.lean ====
/-
# The reference's result on the extended reals

The reference sorts a row's positions by the negated entries and reads the row at the first eight. Entry (r, t) is so the
entry at position `t` of the order, and no entry before it in the order is smaller: it is entry `t` of the row in falling
order.
-/
module

public import proofs.«01_k».proof.Proof.Nth
public import proofs.«01_k».proof.Proof.Gen.ReferenceIdeal
public import Idealize.ShloMosaic.Lib.Pointwise
public import Idealize.ShloMosaic.Lib.SortFacts
public import Idealize.ShloMosaic.Lib.Routing.OpsPair
public import Idealize.ShloMosaic.Lib.IdealHost

@[expose] public section

noncomputable section

namespace Cert.TopK

open Cert.ReferenceIdeal Cert.ReferenceIdeal.Gen
open Idealize.ShloMosaic

/-- A small number as a word. -/
theorem word_toInt (n : ℕ) (hn : n < 2 ^ 31) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-! ## The order -/

/-- The comparator is the order of the first components. -/
theorem comparator_eq (p q : EReal × BitVec 32) :
    comparator_f32_i32_d1 (F := Ideal) p q = BitVec.ofBool (decide (p.1 < q.1)) := by
  have hz : (FloatOps.ofBits .f32 0x00000000#32 : Ideal .f32) = (0 : EReal) := Ideal.ofBits_zero_f32
  have hc : ∀ a : EReal, Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32)) (FloatOps.ofBits .f32 0x00000000#32 : Ideal .f32) a) = a := by
    intro a
    rw [hz]
    show Scalar.select (BitVec.ofBool (decide (a ≠ a))) _ (Scalar.select (BitVec.ofBool (decide (a = 0))) (0 : EReal) a) = a
    by_cases h : a = 0
    · subst h; simp [Scalar.select]
    · simp [Scalar.select, h]
  unfold comparator_f32_i32_d1
  dsimp only
  rw [hc p.1, hc q.1]
  rfl

/-- The position that the order of row `r` has at place `t`. -/
def place (x : FVec Ideal S256x4096 .bf16) (r : Fin 256) : Fin 4096 → Fin 4096 :=
  sortedFrom fun k k' => decide ((x (ix2 r k') : EReal) < x (ix2 r k))

/-- The positions in order, as the reference computes them. -/
def places (x : FVec Ideal S256x4096 .bf16) : IVec S256x4096 32 :=
  (Host.sort2 S256x4096 1 (comparator_f32_i32_d1 (F := Ideal)) (Host.negf (extf .f32 x bitsLt_bf16_f32)) (iotaInDim S256x4096 32 1)).2

theorem along_eq (r : Fin 256) (t k : Fin 4096) : Shape.Idx.along (s := S256x4096) (ix2 r t) (1 : Fin 2) k = ix2 r k := by
  funext a; fin_cases a <;> rfl

theorem places_at (x : FVec Ideal S256x4096 .bf16) (r : Fin 256) (t : Fin 4096) :
    places x (ix2 r t) = BitVec.ofNat 32 (place x r t).val := by
  have e : (fun k k' : Fin 4096 => comparator_f32_i32_d1 (F := Ideal)
        ((Host.negf (extf .f32 x bitsLt_bf16_f32)) (Shape.Idx.along (s := S256x4096) (ix2 r t) (1 : Fin 2) k), iotaInDim S256x4096 32 1 (Shape.Idx.along (s := S256x4096) (ix2 r t) (1 : Fin 2) k))
        ((Host.negf (extf .f32 x bitsLt_bf16_f32)) (Shape.Idx.along (s := S256x4096) (ix2 r t) (1 : Fin 2) k'), iotaInDim S256x4096 32 1 (Shape.Idx.along (s := S256x4096) (ix2 r t) (1 : Fin 2) k')) == 1#1)
      = fun k k' => decide ((x (ix2 r k') : EReal) < x (ix2 r k)) := by
    funext k k'
    rw [comparator_eq, along_eq, along_eq]
    show (BitVec.ofBool (decide (-(x (ix2 r k) : EReal) < -(x (ix2 r k') : EReal))) == 1#1) = _
    by_cases h : (x (ix2 r k') : EReal) < x (ix2 r k)
    · rw [decide_eq_true h, decide_eq_true (EReal.neg_lt_neg_iff.mpr h)]; rfl
    · rw [decide_eq_false h, decide_eq_false fun h' => h (EReal.neg_lt_neg_iff.mp h')]; rfl
  refine (congrArg (fun σ : Fin 4096 → Fin 4096 => iotaInDim S256x4096 32 1 (Shape.Idx.along (s := S256x4096) (ix2 r t) (1 : Fin 2) (σ t)))
    (congrArg sortedFrom e)).trans ?_
  rw [along_eq]
  rfl

/-- Entries in order do not rise. -/
theorem place_fall (x : FVec Ideal S256x4096 .bf16) (r : Fin 256) (i j : Fin 4096) (hij : i ≤ j) :
    (x (ix2 r (place x r j)) : EReal) ≤ x (ix2 r (place x r i)) := by
  rcases eq_or_lt_of_le hij with rfl | hij
  · exact le_rfl
  have h := sortedFrom_noInversion (fun k k' => decide ((x (ix2 r k') : EReal) < x (ix2 r k)))
    (fun k k' => decide ((x (ix2 r k') : EReal) < x (ix2 r k))) (fun a b hab => decide_eq_false (not_lt.mpr (le_of_lt (of_decide_eq_true hab))))
    (fun _ _ => id) (fun a b c hab hbc => decide_eq_false (not_lt.mpr ((not_lt.mp (of_decide_eq_false hab)).trans (not_lt.mp (of_decide_eq_false hbc))))) i j hij
  exact not_lt.mp (of_decide_eq_false h)

/-- The entry at place `t` of the order is entry `t` of the row in falling order. -/
theorem place_nth (x : FVec Ideal S256x4096 .bf16) (r : Fin 256) (t : Fin 4096) :
    IsNth (above fun k : Fin 4096 => (x (ix2 r k) : EReal)) t.val (x (ix2 r (place x r t))) := by
  intro a _
  have hb : Function.Bijective (place x r) := ⟨sortedFrom_injective _, sortedFrom_surjective _⟩
  have hs : above (fun k : Fin 4096 => (x (ix2 r k) : EReal)) a = above (fun j => (x (ix2 r (place x r j)) : EReal)) a :=
    (Function.Bijective.sum_comp hb fun k => one a (x (ix2 r k))).symm
  rw [hs]
  exact fall_count (fun j => (x (ix2 r (place x r j)) : EReal)) (place_fall x r) a t

/-! ## The result -/

/-- Positions as starts of slices of one entry. -/
def starts (i : IVec S256x8 32) : IVec S256x8x1 32 :=
  shapeCast _ (select (cmpi .slt i (broadcastInDim S256x8 ![] bcast_S_S256x8 (constantI S_ 32 0#32)))
    (addi i (broadcastInDim S256x8 ![] bcast_S_S256x8 (constantI S_ 32 4096#32))) i) shapeCasts_S256x8_S256x8x1

/-- Which positions are within the row. -/
def within (i : IVec S256x8 32) : IVec S256x8 1 :=
  Host.reduce IntOp.andi (andi (cmpi .sge (starts i) (broadcastInDim S256x8x1 ![] bcast_S_S256x8x1 (constantI S_ 32 0#32)))
    (cmpi .sle (starts i) (broadcastInDim S256x8x1 ![0, 1, 2] bcast_S1x1x1_S256x8x1_0_1_2 (broadcastInDim S1x1x1 ![2] bcast_S1_S1x1x1_2 (constantI S1 32 4095#32)))))
    (constantI S_ 1 1#1) reducesTo_S256x8x1_S256x8_d2 h_S_

/-- The first eight positions of each row. -/
def firstEight (x : FVec Ideal S256x4096 .bf16) : IVec S256x8 32 := extractStridedSlice S256x8 ![0, 0] (places x) slices_S256x4096_S256x8_0_0

/-- The reference's result. -/
def refOut (x : FVec Ideal S256x4096 .bf16) : FVec Ideal S256x8 .bf16 :=
  truncf .bf16 (select (within (firstEight x))
    (Host.gather gather_S256x4096_S256x8x1_S256x8_n_1_0_0_1_2_11 (extf .f32 x bitsLt_bf16_f32) (starts (firstEight x)))
    (broadcastInDim S256x8 ![] bcast_S_S256x8 (constant S_ .f32 0x7FC00000#32))) bitsLt_bf16_f32

theorem firstEight_at (x : FVec Ideal S256x4096 .bf16) (r : Fin 256) (t : Fin 8) :
    firstEight x (ix2 r t) = BitVec.ofNat 32 (place x r ⟨t.val, by omega⟩).val := by
  rw [← places_at]
  pointwise [firstEight]

theorem starts_at (i : IVec S256x8 32) (r : Fin 256) (t : Fin 8) (k : Fin 4096) (h : i (ix2 r t) = BitVec.ofNat 32 k.val) :
    starts i (ix3 r t 0) = BitVec.ofNat 32 k.val := by
  pointwise [starts]
  rw [h]
  exact Routing.wrap_of_lt _ _ (by rw [BitVec.toNat_ofNat, Nat.mod_eq_of_lt (by omega)]; omega)

theorem within_at (i : IVec S256x8 32) (r : Fin 256) (t : Fin 8) (k : Fin 4096) (h : i (ix2 r t) = BitVec.ofNat 32 k.val) :
    within i (ix2 r t) = 1#1 := by
  have hs := starts_at i r t k h
  pointwise [within]
  have h0 : IntOp.cmpi .sge (BitVec.ofNat 32 k.val) 0#32 = 1#1 := by
    show BitVec.ofBool (BitVec.sle 0#32 (BitVec.ofNat 32 k.val)) = 1#1
    rw [BitVec.sle_eq_decide, word_toInt k.val (by omega), decide_eq_true (by show (0 : ℤ) ≤ k.val; omega)]; rfl
  have h1 : IntOp.cmpi .sle (BitVec.ofNat 32 k.val) 4095#32 = 1#1 := by
    show BitVec.ofBool (BitVec.sle (BitVec.ofNat 32 k.val) 4095#32) = 1#1
    rw [BitVec.sle_eq_decide, word_toInt k.val (by omega), decide_eq_true (by show (k.val : ℤ) ≤ 4095; omega)]; rfl
  rw [show (Finset.univ : Finset (Fin 1)) = {0} from rfl, Finset.fold_singleton, hs, h0, h1]
  rfl

theorem gather_at (x : FVec Ideal S256x4096 .bf16) (i : IVec S256x8x1 32) (r : Fin 256) (t : Fin 8) (k : Fin 4096) (h : i (ix3 r t 0) = BitVec.ofNat 32 k.val) :
    Host.gather gather_S256x4096_S256x8x1_S256x8_n_1_0_0_1_2_11 x i (ix2 r t) = x (ix2 r k) := by
  have hi : (i (ix3 r t 0)).toInt.toNat = k.val := by
    rw [h, word_toInt _ (by omega)]; rfl
  unfold Host.gather
  congr 1
  funext a
  refine Fin.ext ?_
  fin_cases a
  · show 0 + r.val + 0 = r.val; omega
  · show min (i _).toInt.toNat (4096 - 1) + 0 + 0 = k.val
    rw [show (GatherDims.siIdx gather_S256x4096_S256x8x1_S256x8_n_1_0_0_1_2_11 (ix2 r t) _) = ix3 r t 0 from by funext b; fin_cases b <;> rfl]
    rw [hi]
    omega

/-- Entry (r, t) of the reference's result. -/
theorem refOut_at (x : FVec Ideal S256x4096 .bf16) (r : Fin 256) (t : Fin 8) :
    refOut x (ix2 r t) = x (ix2 r (place x r ⟨t.val, by omega⟩)) := by
  have h := firstEight_at x r t
  unfold refOut
  show Scalar.select (within (firstEight x) (ix2 r t)) _ _ = _
  rw [within_at _ r t _ h]
  exact gather_at x (starts (firstEight x)) r t _ (starts_at _ r t _ h)

end Cert.TopK

end
-- ==== Proof.Agree.lean ====
/-
# Kernel and reference agree

Every device's block is a quarter of the reference's columns, so the four blocks' rows together are the reference's row. The
kernel's entry (r, t) and the reference's are both entry `t` of that row in falling order.
-/
module

public import proofs.«01_k».proof.Proof.Result
public import proofs.«01_k».proof.Proof.Sorted

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt Ideal) ℓ)

/-- The columns, by device. -/
def column : Fin 4 × Fin 1024 ≃ Fin 4096 := finProdFinEquiv (m := 4) (n := 1024)

theorem column_val (d : Fin 4) (k : Fin 1024) : (column (d, k)).val = k.val + 1024 * d.val := finProdFinEquiv_apply_val _

/-- What is staged is the device's argument. -/
theorem staged_at (c : Dev nD) (i : S256x1024.Idx) : xstg m c i = m ((c : Thread nD τ).loc main_arg0) i := by
  refine congrArg (m ((c : Thread nD τ).loc main_arg0)) (show (win0_0.blk (0 : Fin 1)).view.emb i = i from ?_)
  funext a; fin_cases a
  · refine Fin.ext ?_
    show 0 + 1 * (i 0).val = (i 0).val
    omega
  · refine Fin.ext ?_
    show 0 + 1 * (i 1).val = (i 1).val
    omega

/-- The devices' rows are the reference's row. -/
theorem rows_above (X : FVec Ideal ⟨2, ![256, 4096]⟩ .bf16)
    (h : ∀ c : Dev nD, m ((c : Thread nD τ).loc main_arg0) = Layout.block ⟨2, ![256, 1024]⟩ ⟨2, ![256, 4096]⟩ 1 4 c X) (r : Fin 256) (a : EReal) :
    ∑ d : Fin 4, above (rowOf (xstg m d) r) a = above (fun k : Fin 4096 => (X (ix2 r k) : EReal)) a := by
  unfold above
  rw [← Equiv.sum_comp column, Fintype.sum_prod_type]
  refine Finset.sum_congr rfl fun d _ => Finset.sum_congr rfl fun k _ => congrArg (one a) ?_
  show xstg m d (ix2 r k) = X (ix2 r (column (d, k)))
  rw [staged_at, h]
  refine congrArg X (funext fun b => Fin.ext ?_)
  fin_cases b
  · rfl
  · show d.val * 1024 + k.val = (column (d, k)).val
    rw [column_val]; omega

/-- On every device the kernel's result is the reference's. -/
theorem out_eq (X : FVec Ideal ⟨2, ![256, 4096]⟩ .bf16)
    (h : ∀ c : Dev nD, m ((c : Thread nD τ).loc main_arg0) = Layout.block ⟨2, ![256, 1024]⟩ ⟨2, ![256, 4096]⟩ 1 4 c X) (c : Dev nD) :
    outBuf m c = refOut X := by
  have key : ∀ (r : Fin 256) (t : Fin 8), outBuf m c (ix2 r t) = refOut X (ix2 r t) := by
    intro r t
    have h1 := out_value m c r t
    rw [funext (rows_above m X h r)] at h1
    rw [refOut_at]
    exact h1.unique (place_nth X r ⟨t.val, by omega⟩)
  funext (i : S256x8.Idx)
  have e : i = ix2 (i 0) (i 1) := by funext a; fin_cases a <;> rfl
  rw [e]
  exact key (i 0) (i 1)

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.Run
public import proofs.«01_k».proof.Proof.Same
public import proofs.«01_k».proof.Proof.Agree
public import Idealize.ShloMosaic.Init

@[expose] public section

noncomputable section

namespace Cert.Proof

open Idealize.ShloMosaic Idealize.SL.Sem Cert.Kernel

/-- The kernel over any floats: its run, read at the blocks and at the semaphores. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.TopK.final_x m c), h.2⟩)
    (Cert.TopK.run_main m ρ)

/-- The bf16 program: the idealization prints the same text, so the one run serves both. -/
theorem frame_bits : Cert.quiescent_Kernel (hKernel := Cert.Kernel.Gen.facts) :=
  fun m ρ _ => Cert.TopK.run_first m ρ _ (frame_any m ρ)

/-- The program at the extended reals. -/
theorem frame_ideal : Cert.quiescent_KernelIdeal (hKernelIdeal := Cert.KernelIdeal.Gen.facts) := fun m ρ _ => frame_any m ρ

/-- The reference, host operations on one device; it has no semaphore. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On the extended reals the kernel's result is the reference's, on every device. -/
theorem values : Cert.algebraic_KernelIdeal_ReferenceIdeal (hKernelIdeal := Cert.KernelIdeal.Gen.facts) (hReferenceIdeal := Cert.ReferenceIdeal.Gen.facts) := by
  intro m g m' g' _ hin
  refine ⟨Cert.TopK.refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, ?_⟩) (Cert.TopK.run_main (F := Ideal) m g)
    · exact (h.1 c (1 : Fin 2)).trans ((Cert.TopK.final_out m c).trans (Cert.TopK.out_eq m _ hin c))
    · exact (h.1 c (0 : Fin 2)).trans (Cert.TopK.final_x m c)
  · exact (θ_run Cert.ReferenceIdeal.defs _ _).mono (fun _ h => ⟨(h 0).1, (h 0).2⟩) (Cert.ReferenceIdeal.Value.run (F := Ideal) m' g')

theorem claim : Cert.Claim := ⟨Cert.Kernel.Gen.facts, Cert.KernelIdeal.Gen.facts, Cert.ReferenceIdeal.Gen.facts,
  frame_bits, frame_ideal, frame_reference, trivial, values⟩

end Cert.Proof

end
